-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x8192 : Shape := ⟨2, ![128, 8192]⟩
abbrev S1024x1024 : Shape := ⟨2, ![1024, 1024]⟩
abbrev S128x1024 : Shape := ⟨2, ![128, 1024]⟩
abbrev S128x4096 : Shape := ⟨2, ![128, 4096]⟩
abbrev S32 : Shape := ⟨1, ![32]⟩
abbrev S_ : Shape := ⟨0, ![]⟩
abbrev S128x128 : Shape := ⟨2, ![128, 128]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S4096x8192, .bf16⟩
  | .hbm, ⟨2, _⟩ => ⟨S128x8192, .f32⟩
  | .local _ .vmem, ⟨0, _⟩ => ⟨S4096x128, .bf16⟩
  | .local _ .vmem, ⟨1, _⟩ => ⟨S1024x1024, .bf16⟩
  | .local _ .vmem, ⟨2, _⟩ => ⟨S1024x1024, .bf16⟩
  | .local _ .vmem, ⟨3, _⟩ => ⟨S128x1024, .f32⟩
  | .local _ .vmem, ⟨4, _⟩ => ⟨S128x1024, .f32⟩
  | .local _ .vmem, ⟨5, _⟩ => ⟨S4096x128, .bf16⟩
  | .local _ .vmem, ⟨6, _⟩ => ⟨S128x4096, .bf16⟩
  | .local _ .vmem, ⟨7, _⟩ => ⟨S128x8192, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier0 : Sem sig := 0

abbrev nD : Nat := 32
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v35 : BitVec 32 := Scalar.addi v2 c1_i32_14
  let c32_i32_15 : BitVec 32 := 32#32
  let v36 : BitVec 32 := Scalar.remsi v35 c32_i32_15
  let c1_i32_17 : BitVec 32 := 1#32
  let v37 : BitVec 32 := Scalar.muli v36 c1_i32_17
  let v38 : BitVec 32 := Scalar.addi c0_i32_18 v37
  v38.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v39 : BitVec 32 := Scalar.addi v2 c2_i32
  let c32_i32_19 : BitVec 32 := 32#32
  let v40 : BitVec 32 := Scalar.remsi v39 c32_i32_19
  let c1_i32_21 : BitVec 32 := 1#32
  let v41 : BitVec 32 := Scalar.muli v40 c1_i32_21
  let v42 : BitVec 32 := Scalar.addi c0_i32_22 v41
  v42.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_23 : BitVec 32 := 3#32
  let v43 : BitVec 32 := Scalar.addi v2 c3_i32_23
  let c32_i32_24 : BitVec 32 := 32#32
  let v44 : BitVec 32 := Scalar.remsi v43 c32_i32_24
  let c1_i32_26 : BitVec 32 := 1#32
  let v45 : BitVec 32 := Scalar.muli v44 c1_i32_26
  let v46 : BitVec 32 := Scalar.addi c0_i32_27 v45
  v46.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v47 : BitVec 32 := Scalar.addi v2 c4_i32
  let c32_i32_28 : BitVec 32 := 32#32
  let v48 : BitVec 32 := Scalar.remsi v47 c32_i32_28
  let c1_i32_30 : BitVec 32 := 1#32
  let v49 : BitVec 32 := Scalar.muli v48 c1_i32_30
  let v50 : BitVec 32 := Scalar.addi c0_i32_31 v49
  v50.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v51 : BitVec 32 := Scalar.addi v2 c5_i32
  let c32_i32_32 : BitVec 32 := 32#32
  let v52 : BitVec 32 := Scalar.remsi v51 c32_i32_32
  let c1_i32_34 : BitVec 32 := 1#32
  let v53 : BitVec 32 := Scalar.muli v52 c1_i32_34
  let v54 : BitVec 32 := Scalar.addi c0_i32_35 v53
  v54.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v55 : BitVec 32 := Scalar.addi v2 c6_i32
  let c32_i32_36 : BitVec 32 := 32#32
  let v56 : BitVec 32 := Scalar.remsi v55 c32_i32_36
  let c1_i32_38 : BitVec 32 := 1#32
  let v57 : BitVec 32 := Scalar.muli v56 c1_i32_38
  let v58 : BitVec 32 := Scalar.addi c0_i32_39 v57
  v58.toNat
def k0_dev7 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_40 : BitVec 32 := 7#32
  let v59 : BitVec 32 := Scalar.addi v2 c7_i32_40
  let c32_i32_41 : BitVec 32 := 32#32
  let v60 : BitVec 32 := Scalar.remsi v59 c32_i32_41
  let c1_i32_43 : BitVec 32 := 1#32
  let v61 : BitVec 32 := Scalar.muli v60 c1_i32_43
  let v62 : BitVec 32 := Scalar.addi c0_i32_44 v61
  v62.toNat
def k0_dev8 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v63 : BitVec 32 := Scalar.addi v2 c8_i32
  let c32_i32_45 : BitVec 32 := 32#32
  let v64 : BitVec 32 := Scalar.remsi v63 c32_i32_45
  let c1_i32_47 : BitVec 32 := 1#32
  let v65 : BitVec 32 := Scalar.muli v64 c1_i32_47
  let v66 : BitVec 32 := Scalar.addi c0_i32_48 v65
  v66.toNat
def k0_dev9 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v67 : BitVec 32 := Scalar.addi v2 c9_i32
  let c32_i32_49 : BitVec 32 := 32#32
  let v68 : BitVec 32 := Scalar.remsi v67 c32_i32_49
  let c1_i32_51 : BitVec 32 := 1#32
  let v69 : BitVec 32 := Scalar.muli v68 c1_i32_51
  let v70 : BitVec 32 := Scalar.addi c0_i32_52 v69
  v70.toNat
def k0_dev10 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v71 : BitVec 32 := Scalar.addi v2 c10_i32
  let c32_i32_53 : BitVec 32 := 32#32
  let v72 : BitVec 32 := Scalar.remsi v71 c32_i32_53
  let c1_i32_55 : BitVec 32 := 1#32
  let v73 : BitVec 32 := Scalar.muli v72 c1_i32_55
  let v74 : BitVec 32 := Scalar.addi c0_i32_56 v73
  v74.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v75 : BitVec 32 := Scalar.addi v2 c11_i32
  let c32_i32_57 : BitVec 32 := 32#32
  let v76 : BitVec 32 := Scalar.remsi v75 c32_i32_57
  let c1_i32_59 : BitVec 32 := 1#32
  let v77 : BitVec 32 := Scalar.muli v76 c1_i32_59
  let v78 : BitVec 32 := Scalar.addi c0_i32_60 v77
  v78.toNat
def k0_dev12 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v79 : BitVec 32 := Scalar.addi v2 c12_i32
  let c32_i32_61 : BitVec 32 := 32#32
  let v80 : BitVec 32 := Scalar.remsi v79 c32_i32_61
  let c1_i32_63 : BitVec 32 := 1#32
  let v81 : BitVec 32 := Scalar.muli v80 c1_i32_63
  let v82 : BitVec 32 := Scalar.addi c0_i32_64 v81
  v82.toNat
def k0_dev13 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v83 : BitVec 32 := Scalar.addi v2 c13_i32
  let c32_i32_65 : BitVec 32 := 32#32
  let v84 : BitVec 32 := Scalar.remsi v83 c32_i32_65
  let c1_i32_67 : BitVec 32 := 1#32
  let v85 : BitVec 32 := Scalar.muli v84 c1_i32_67
  let v86 : BitVec 32 := Scalar.addi c0_i32_68 v85
  v86.toNat
def k0_dev14 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v87 : BitVec 32 := Scalar.addi v2 c14_i32
  let c32_i32_69 : BitVec 32 := 32#32
  let v88 : BitVec 32 := Scalar.remsi v87 c32_i32_69
  let c1_i32_71 : BitVec 32 := 1#32
  let v89 : BitVec 32 := Scalar.muli v88 c1_i32_71
  let v90 : BitVec 32 := Scalar.addi c0_i32_72 v89
  v90.toNat
def k0_dev15 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v91 : BitVec 32 := Scalar.addi v2 c15_i32
  let c32_i32_73 : BitVec 32 := 32#32
  let v92 : BitVec 32 := Scalar.remsi v91 c32_i32_73
  let c1_i32_75 : BitVec 32 := 1#32
  let v93 : BitVec 32 := Scalar.muli v92 c1_i32_75
  let v94 : BitVec 32 := Scalar.addi c0_i32_76 v93
  v94.toNat
def k0_dev16 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v95 : BitVec 32 := Scalar.addi v2 c16_i32
  let c32_i32_77 : BitVec 32 := 32#32
  let v96 : BitVec 32 := Scalar.remsi v95 c32_i32_77
  let c1_i32_79 : BitVec 32 := 1#32
  let v97 : BitVec 32 := Scalar.muli v96 c1_i32_79
  let v98 : BitVec 32 := Scalar.addi c0_i32_80 v97
  v98.toNat
def k0_dev17 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v99 : BitVec 32 := Scalar.addi v2 c17_i32
  let c32_i32_81 : BitVec 32 := 32#32
  let v100 : BitVec 32 := Scalar.remsi v99 c32_i32_81
  let c1_i32_83 : BitVec 32 := 1#32
  let v101 : BitVec 32 := Scalar.muli v100 c1_i32_83
  let v102 : BitVec 32 := Scalar.addi c0_i32_84 v101
  v102.toNat
def k0_dev18 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v103 : BitVec 32 := Scalar.addi v2 c18_i32
  let c32_i32_85 : BitVec 32 := 32#32
  let v104 : BitVec 32 := Scalar.remsi v103 c32_i32_85
  let c1_i32_87 : BitVec 32 := 1#32
  let v105 : BitVec 32 := Scalar.muli v104 c1_i32_87
  let v106 : BitVec 32 := Scalar.addi c0_i32_88 v105
  v106.toNat
def k0_dev19 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v107 : BitVec 32 := Scalar.addi v2 c19_i32
  let c32_i32_89 : BitVec 32 := 32#32
  let v108 : BitVec 32 := Scalar.remsi v107 c32_i32_89
  let c1_i32_91 : BitVec 32 := 1#32
  let v109 : BitVec 32 := Scalar.muli v108 c1_i32_91
  let v110 : BitVec 32 := Scalar.addi c0_i32_92 v109
  v110.toNat
def k0_dev20 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v111 : BitVec 32 := Scalar.addi v2 c20_i32
  let c32_i32_93 : BitVec 32 := 32#32
  let v112 : BitVec 32 := Scalar.remsi v111 c32_i32_93
  let c1_i32_95 : BitVec 32 := 1#32
  let v113 : BitVec 32 := Scalar.muli v112 c1_i32_95
  let v114 : BitVec 32 := Scalar.addi c0_i32_96 v113
  v114.toNat
def k0_dev21 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v115 : BitVec 32 := Scalar.addi v2 c21_i32
  let c32_i32_97 : BitVec 32 := 32#32
  let v116 : BitVec 32 := Scalar.remsi v115 c32_i32_97
  let c1_i32_99 : BitVec 32 := 1#32
  let v117 : BitVec 32 := Scalar.muli v116 c1_i32_99
  let v118 : BitVec 32 := Scalar.addi c0_i32_100 v117
  v118.toNat
def k0_dev22 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v119 : BitVec 32 := Scalar.addi v2 c22_i32
  let c32_i32_101 : BitVec 32 := 32#32
  let v120 : BitVec 32 := Scalar.remsi v119 c32_i32_101
  let c1_i32_103 : BitVec 32 := 1#32
  let v121 : BitVec 32 := Scalar.muli v120 c1_i32_103
  let v122 : BitVec 32 := Scalar.addi c0_i32_104 v121
  v122.toNat
def k0_dev23 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v123 : BitVec 32 := Scalar.addi v2 c23_i32
  let c32_i32_105 : BitVec 32 := 32#32
  let v124 : BitVec 32 := Scalar.remsi v123 c32_i32_105
  let c1_i32_107 : BitVec 32 := 1#32
  let v125 : BitVec 32 := Scalar.muli v124 c1_i32_107
  let v126 : BitVec 32 := Scalar.addi c0_i32_108 v125
  v126.toNat
def k0_dev24 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v127 : BitVec 32 := Scalar.addi v2 c24_i32
  let c32_i32_109 : BitVec 32 := 32#32
  let v128 : BitVec 32 := Scalar.remsi v127 c32_i32_109
  let c1_i32_111 : BitVec 32 := 1#32
  let v129 : BitVec 32 := Scalar.muli v128 c1_i32_111
  let v130 : BitVec 32 := Scalar.addi c0_i32_112 v129
  v130.toNat
def k0_dev25 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v131 : BitVec 32 := Scalar.addi v2 c25_i32
  let c32_i32_113 : BitVec 32 := 32#32
  let v132 : BitVec 32 := Scalar.remsi v131 c32_i32_113
  let c1_i32_115 : BitVec 32 := 1#32
  let v133 : BitVec 32 := Scalar.muli v132 c1_i32_115
  let v134 : BitVec 32 := Scalar.addi c0_i32_116 v133
  v134.toNat
def k0_dev26 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v135 : BitVec 32 := Scalar.addi v2 c26_i32
  let c32_i32_117 : BitVec 32 := 32#32
  let v136 : BitVec 32 := Scalar.remsi v135 c32_i32_117
  let c1_i32_119 : BitVec 32 := 1#32
  let v137 : BitVec 32 := Scalar.muli v136 c1_i32_119
  let v138 : BitVec 32 := Scalar.addi c0_i32_120 v137
  v138.toNat
def k0_dev27 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v139 : BitVec 32 := Scalar.addi v2 c27_i32
  let c32_i32_121 : BitVec 32 := 32#32
  let v140 : BitVec 32 := Scalar.remsi v139 c32_i32_121
  let c1_i32_123 : BitVec 32 := 1#32
  let v141 : BitVec 32 := Scalar.muli v140 c1_i32_123
  let v142 : BitVec 32 := Scalar.addi c0_i32_124 v141
  v142.toNat
def k0_dev28 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v143 : BitVec 32 := Scalar.addi v2 c28_i32
  let c32_i32_125 : BitVec 32 := 32#32
  let v144 : BitVec 32 := Scalar.remsi v143 c32_i32_125
  let c1_i32_127 : BitVec 32 := 1#32
  let v145 : BitVec 32 := Scalar.muli v144 c1_i32_127
  let v146 : BitVec 32 := Scalar.addi c0_i32_128 v145
  v146.toNat
def k0_dev29 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v147 : BitVec 32 := Scalar.addi v2 c29_i32
  let c32_i32_129 : BitVec 32 := 32#32
  let v148 : BitVec 32 := Scalar.remsi v147 c32_i32_129
  let c1_i32_131 : BitVec 32 := 1#32
  let v149 : BitVec 32 := Scalar.muli v148 c1_i32_131
  let v150 : BitVec 32 := Scalar.addi c0_i32_132 v149
  v150.toNat
def k0_dev30 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v151 : BitVec 32 := Scalar.addi v2 c30_i32
  let c32_i32_133 : BitVec 32 := 32#32
  let v152 : BitVec 32 := Scalar.remsi v151 c32_i32_133
  let c1_i32_135 : BitVec 32 := 1#32
  let v153 : BitVec 32 := Scalar.muli v152 c1_i32_135
  let v154 : BitVec 32 := Scalar.addi c0_i32_136 v153
  v154.toNat
def k0_dev31 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v155 : BitVec 32 := Scalar.addi v2 c31_i32
  let c32_i32_137 : BitVec 32 := 32#32
  let v156 : BitVec 32 := Scalar.remsi v155 c32_i32_137
  let c1_i32_139 : BitVec 32 := 1#32
  let v157 : BitVec 32 := Scalar.muli v156 c1_i32_139
  let v158 : BitVec 32 := Scalar.addi c0_i32_140 v157
  v158.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v164 : BitVec 32 := Scalar.muli v2 c128_i32
  let v165 : Index := Scalar.indexCast v164
  let c0_146 : Index := 0#32
  ![v165.toNat, 0]
def k0_off2 (d0 : Dev nD) : Fin 2 → Nat :=
  let c0_148 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_147 : BitVec 32 := 128#32
  let v167 : BitVec 32 := Scalar.muli v2 c128_i32_147
  let v168 : Index := Scalar.indexCast v167
  ![0, v168.toNat]
def k0_off3 (d0 : Dev nD) (c1_i32_149 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v172 : BitVec 32 := Scalar.addi v2 c1_i32_149
  let c32_i32_150 : BitVec 32 := 32#32
  let v173 : BitVec 32 := Scalar.remsi v172 c32_i32_150
  ![v173.toNat]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 2 → Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_152 : BitVec 32 := 128#32
  let v175 : BitVec 32 := Scalar.muli v2 c128_i32_152
  ![0, v175.toNat]
def k0_off6 (d0 : Dev nD) (c1_i32_149 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v172 : BitVec 32 := Scalar.addi v2 c1_i32_149
  let c32_i32_150 : BitVec 32 := 32#32
  let v173 : BitVec 32 := Scalar.remsi v172 c32_i32_150
  let c128_i32_151 : BitVec 32 := 128#32
  let v174 : BitVec 32 := Scalar.muli v173 c128_i32_151
  let c0_i32_156 : BitVec 32 := 0#32
  ![v174.toNat, 0]
def k0_dev32 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_149 : BitVec 32 := 1#32
  let v172 : BitVec 32 := Scalar.addi v2 c1_i32_149
  let c32_i32_150 : BitVec 32 := 32#32
  let v173 : BitVec 32 := Scalar.remsi v172 c32_i32_150
  let c1_i32_153 : BitVec 32 := 1#32
  let v176 : BitVec 32 := Scalar.muli v173 c1_i32_153
  let v177 : BitVec 32 := Scalar.addi c0_i32_154 v176
  v177.toNat
def k0_dev33 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_157 : BitVec 32 := 2#32
  let v184 : BitVec 32 := Scalar.addi v2 c2_i32_157
  let c32_i32_158 : BitVec 32 := 32#32
  let v185 : BitVec 32 := Scalar.remsi v184 c32_i32_158
  let c1_i32_161 : BitVec 32 := 1#32
  let v188 : BitVec 32 := Scalar.muli v185 c1_i32_161
  let v189 : BitVec 32 := Scalar.addi c0_i32_162 v188
  v189.toNat
def k0_dev34 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_165 : BitVec 32 := 3#32
  let v196 : BitVec 32 := Scalar.addi v2 c3_i32_165
  let c32_i32_166 : BitVec 32 := 32#32
  let v197 : BitVec 32 := Scalar.remsi v196 c32_i32_166
  let c1_i32_169 : BitVec 32 := 1#32
  let v200 : BitVec 32 := Scalar.muli v197 c1_i32_169
  let v201 : BitVec 32 := Scalar.addi c0_i32_170 v200
  v201.toNat
def k0_dev35 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_173 : BitVec 32 := 4#32
  let v208 : BitVec 32 := Scalar.addi v2 c4_i32_173
  let c32_i32_174 : BitVec 32 := 32#32
  let v209 : BitVec 32 := Scalar.remsi v208 c32_i32_174
  let c1_i32_177 : BitVec 32 := 1#32
  let v212 : BitVec 32 := Scalar.muli v209 c1_i32_177
  let v213 : BitVec 32 := Scalar.addi c0_i32_178 v212
  v213.toNat
def k0_dev36 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_181 : BitVec 32 := 5#32
  let v220 : BitVec 32 := Scalar.addi v2 c5_i32_181
  let c32_i32_182 : BitVec 32 := 32#32
  let v221 : BitVec 32 := Scalar.remsi v220 c32_i32_182
  let c1_i32_185 : BitVec 32 := 1#32
  let v224 : BitVec 32 := Scalar.muli v221 c1_i32_185
  let v225 : BitVec 32 := Scalar.addi c0_i32_186 v224
  v225.toNat
def k0_dev37 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_189 : BitVec 32 := 6#32
  let v232 : BitVec 32 := Scalar.addi v2 c6_i32_189
  let c32_i32_190 : BitVec 32 := 32#32
  let v233 : BitVec 32 := Scalar.remsi v232 c32_i32_190
  let c1_i32_193 : BitVec 32 := 1#32
  let v236 : BitVec 32 := Scalar.muli v233 c1_i32_193
  let v237 : BitVec 32 := Scalar.addi c0_i32_194 v236
  v237.toNat
def k0_dev38 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_197 : BitVec 32 := 7#32
  let v244 : BitVec 32 := Scalar.addi v2 c7_i32_197
  let c32_i32_198 : BitVec 32 := 32#32
  let v245 : BitVec 32 := Scalar.remsi v244 c32_i32_198
  let c1_i32_201 : BitVec 32 := 1#32
  let v248 : BitVec 32 := Scalar.muli v245 c1_i32_201
  let v249 : BitVec 32 := Scalar.addi c0_i32_202 v248
  v249.toNat
def k0_dev39 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_205 : BitVec 32 := 8#32
  let v256 : BitVec 32 := Scalar.addi v2 c8_i32_205
  let c32_i32_206 : BitVec 32 := 32#32
  let v257 : BitVec 32 := Scalar.remsi v256 c32_i32_206
  let c1_i32_209 : BitVec 32 := 1#32
  let v260 : BitVec 32 := Scalar.muli v257 c1_i32_209
  let v261 : BitVec 32 := Scalar.addi c0_i32_210 v260
  v261.toNat
def k0_dev40 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_213 : BitVec 32 := 9#32
  let v268 : BitVec 32 := Scalar.addi v2 c9_i32_213
  let c32_i32_214 : BitVec 32 := 32#32
  let v269 : BitVec 32 := Scalar.remsi v268 c32_i32_214
  let c1_i32_217 : BitVec 32 := 1#32
  let v272 : BitVec 32 := Scalar.muli v269 c1_i32_217
  let v273 : BitVec 32 := Scalar.addi c0_i32_218 v272
  v273.toNat
def k0_dev41 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_221 : BitVec 32 := 10#32
  let v280 : BitVec 32 := Scalar.addi v2 c10_i32_221
  let c32_i32_222 : BitVec 32 := 32#32
  let v281 : BitVec 32 := Scalar.remsi v280 c32_i32_222
  let c1_i32_225 : BitVec 32 := 1#32
  let v284 : BitVec 32 := Scalar.muli v281 c1_i32_225
  let v285 : BitVec 32 := Scalar.addi c0_i32_226 v284
  v285.toNat
def k0_dev42 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_229 : BitVec 32 := 11#32
  let v292 : BitVec 32 := Scalar.addi v2 c11_i32_229
  let c32_i32_230 : BitVec 32 := 32#32
  let v293 : BitVec 32 := Scalar.remsi v292 c32_i32_230
  let c1_i32_233 : BitVec 32 := 1#32
  let v296 : BitVec 32 := Scalar.muli v293 c1_i32_233
  let v297 : BitVec 32 := Scalar.addi c0_i32_234 v296
  v297.toNat
def k0_dev43 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_237 : BitVec 32 := 12#32
  let v304 : BitVec 32 := Scalar.addi v2 c12_i32_237
  let c32_i32_238 : BitVec 32 := 32#32
  let v305 : BitVec 32 := Scalar.remsi v304 c32_i32_238
  let c1_i32_241 : BitVec 32 := 1#32
  let v308 : BitVec 32 := Scalar.muli v305 c1_i32_241
  let v309 : BitVec 32 := Scalar.addi c0_i32_242 v308
  v309.toNat
def k0_dev44 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_245 : BitVec 32 := 13#32
  let v316 : BitVec 32 := Scalar.addi v2 c13_i32_245
  let c32_i32_246 : BitVec 32 := 32#32
  let v317 : BitVec 32 := Scalar.remsi v316 c32_i32_246
  let c1_i32_249 : BitVec 32 := 1#32
  let v320 : BitVec 32 := Scalar.muli v317 c1_i32_249
  let v321 : BitVec 32 := Scalar.addi c0_i32_250 v320
  v321.toNat
def k0_dev45 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_253 : BitVec 32 := 14#32
  let v328 : BitVec 32 := Scalar.addi v2 c14_i32_253
  let c32_i32_254 : BitVec 32 := 32#32
  let v329 : BitVec 32 := Scalar.remsi v328 c32_i32_254
  let c1_i32_257 : BitVec 32 := 1#32
  let v332 : BitVec 32 := Scalar.muli v329 c1_i32_257
  let v333 : BitVec 32 := Scalar.addi c0_i32_258 v332
  v333.toNat
def k0_dev46 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_261 : BitVec 32 := 15#32
  let v340 : BitVec 32 := Scalar.addi v2 c15_i32_261
  let c32_i32_262 : BitVec 32 := 32#32
  let v341 : BitVec 32 := Scalar.remsi v340 c32_i32_262
  let c1_i32_265 : BitVec 32 := 1#32
  let v344 : BitVec 32 := Scalar.muli v341 c1_i32_265
  let v345 : BitVec 32 := Scalar.addi c0_i32_266 v344
  v345.toNat
def k0_dev47 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_269 : BitVec 32 := 16#32
  let v352 : BitVec 32 := Scalar.addi v2 c16_i32_269
  let c32_i32_270 : BitVec 32 := 32#32
  let v353 : BitVec 32 := Scalar.remsi v352 c32_i32_270
  let c1_i32_273 : BitVec 32 := 1#32
  let v356 : BitVec 32 := Scalar.muli v353 c1_i32_273
  let v357 : BitVec 32 := Scalar.addi c0_i32_274 v356
  v357.toNat
def k0_dev48 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_277 : BitVec 32 := 17#32
  let v364 : BitVec 32 := Scalar.addi v2 c17_i32_277
  let c32_i32_278 : BitVec 32 := 32#32
  let v365 : BitVec 32 := Scalar.remsi v364 c32_i32_278
  let c1_i32_281 : BitVec 32 := 1#32
  let v368 : BitVec 32 := Scalar.muli v365 c1_i32_281
  let v369 : BitVec 32 := Scalar.addi c0_i32_282 v368
  v369.toNat
def k0_dev49 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_285 : BitVec 32 := 18#32
  let v376 : BitVec 32 := Scalar.addi v2 c18_i32_285
  let c32_i32_286 : BitVec 32 := 32#32
  let v377 : BitVec 32 := Scalar.remsi v376 c32_i32_286
  let c1_i32_289 : BitVec 32 := 1#32
  let v380 : BitVec 32 := Scalar.muli v377 c1_i32_289
  let v381 : BitVec 32 := Scalar.addi c0_i32_290 v380
  v381.toNat
def k0_dev50 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_293 : BitVec 32 := 19#32
  let v388 : BitVec 32 := Scalar.addi v2 c19_i32_293
  let c32_i32_294 : BitVec 32 := 32#32
  let v389 : BitVec 32 := Scalar.remsi v388 c32_i32_294
  let c1_i32_297 : BitVec 32 := 1#32
  let v392 : BitVec 32 := Scalar.muli v389 c1_i32_297
  let v393 : BitVec 32 := Scalar.addi c0_i32_298 v392
  v393.toNat
def k0_dev51 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_301 : BitVec 32 := 20#32
  let v400 : BitVec 32 := Scalar.addi v2 c20_i32_301
  let c32_i32_302 : BitVec 32 := 32#32
  let v401 : BitVec 32 := Scalar.remsi v400 c32_i32_302
  let c1_i32_305 : BitVec 32 := 1#32
  let v404 : BitVec 32 := Scalar.muli v401 c1_i32_305
  let v405 : BitVec 32 := Scalar.addi c0_i32_306 v404
  v405.toNat
def k0_dev52 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_309 : BitVec 32 := 21#32
  let v412 : BitVec 32 := Scalar.addi v2 c21_i32_309
  let c32_i32_310 : BitVec 32 := 32#32
  let v413 : BitVec 32 := Scalar.remsi v412 c32_i32_310
  let c1_i32_313 : BitVec 32 := 1#32
  let v416 : BitVec 32 := Scalar.muli v413 c1_i32_313
  let v417 : BitVec 32 := Scalar.addi c0_i32_314 v416
  v417.toNat
def k0_dev53 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_317 : BitVec 32 := 22#32
  let v424 : BitVec 32 := Scalar.addi v2 c22_i32_317
  let c32_i32_318 : BitVec 32 := 32#32
  let v425 : BitVec 32 := Scalar.remsi v424 c32_i32_318
  let c1_i32_321 : BitVec 32 := 1#32
  let v428 : BitVec 32 := Scalar.muli v425 c1_i32_321
  let v429 : BitVec 32 := Scalar.addi c0_i32_322 v428
  v429.toNat
def k0_dev54 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_325 : BitVec 32 := 23#32
  let v436 : BitVec 32 := Scalar.addi v2 c23_i32_325
  let c32_i32_326 : BitVec 32 := 32#32
  let v437 : BitVec 32 := Scalar.remsi v436 c32_i32_326
  let c1_i32_329 : BitVec 32 := 1#32
  let v440 : BitVec 32 := Scalar.muli v437 c1_i32_329
  let v441 : BitVec 32 := Scalar.addi c0_i32_330 v440
  v441.toNat
def k0_dev55 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_333 : BitVec 32 := 24#32
  let v448 : BitVec 32 := Scalar.addi v2 c24_i32_333
  let c32_i32_334 : BitVec 32 := 32#32
  let v449 : BitVec 32 := Scalar.remsi v448 c32_i32_334
  let c1_i32_337 : BitVec 32 := 1#32
  let v452 : BitVec 32 := Scalar.muli v449 c1_i32_337
  let v453 : BitVec 32 := Scalar.addi c0_i32_338 v452
  v453.toNat
def k0_dev56 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_341 : BitVec 32 := 25#32
  let v460 : BitVec 32 := Scalar.addi v2 c25_i32_341
  let c32_i32_342 : BitVec 32 := 32#32
  let v461 : BitVec 32 := Scalar.remsi v460 c32_i32_342
  let c1_i32_345 : BitVec 32 := 1#32
  let v464 : BitVec 32 := Scalar.muli v461 c1_i32_345
  let v465 : BitVec 32 := Scalar.addi c0_i32_346 v464
  v465.toNat
def k0_dev57 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_349 : BitVec 32 := 26#32
  let v472 : BitVec 32 := Scalar.addi v2 c26_i32_349
  let c32_i32_350 : BitVec 32 := 32#32
  let v473 : BitVec 32 := Scalar.remsi v472 c32_i32_350
  let c1_i32_353 : BitVec 32 := 1#32
  let v476 : BitVec 32 := Scalar.muli v473 c1_i32_353
  let v477 : BitVec 32 := Scalar.addi c0_i32_354 v476
  v477.toNat
def k0_dev58 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_357 : BitVec 32 := 27#32
  let v484 : BitVec 32 := Scalar.addi v2 c27_i32_357
  let c32_i32_358 : BitVec 32 := 32#32
  let v485 : BitVec 32 := Scalar.remsi v484 c32_i32_358
  let c1_i32_361 : BitVec 32 := 1#32
  let v488 : BitVec 32 := Scalar.muli v485 c1_i32_361
  let v489 : BitVec 32 := Scalar.addi c0_i32_362 v488
  v489.toNat
def k0_dev59 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_365 : BitVec 32 := 28#32
  let v496 : BitVec 32 := Scalar.addi v2 c28_i32_365
  let c32_i32_366 : BitVec 32 := 32#32
  let v497 : BitVec 32 := Scalar.remsi v496 c32_i32_366
  let c1_i32_369 : BitVec 32 := 1#32
  let v500 : BitVec 32 := Scalar.muli v497 c1_i32_369
  let v501 : BitVec 32 := Scalar.addi c0_i32_370 v500
  v501.toNat
def k0_dev60 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_373 : BitVec 32 := 29#32
  let v508 : BitVec 32 := Scalar.addi v2 c29_i32_373
  let c32_i32_374 : BitVec 32 := 32#32
  let v509 : BitVec 32 := Scalar.remsi v508 c32_i32_374
  let c1_i32_377 : BitVec 32 := 1#32
  let v512 : BitVec 32 := Scalar.muli v509 c1_i32_377
  let v513 : BitVec 32 := Scalar.addi c0_i32_378 v512
  v513.toNat
def k0_dev61 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_381 : BitVec 32 := 30#32
  let v520 : BitVec 32 := Scalar.addi v2 c30_i32_381
  let c32_i32_382 : BitVec 32 := 32#32
  let v521 : BitVec 32 := Scalar.remsi v520 c32_i32_382
  let c1_i32_385 : BitVec 32 := 1#32
  let v524 : BitVec 32 := Scalar.muli v521 c1_i32_385
  let v525 : BitVec 32 := Scalar.addi c0_i32_386 v524
  v525.toNat
def k0_dev62 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_389 : BitVec 32 := 31#32
  let v532 : BitVec 32 := Scalar.addi v2 c31_i32_389
  let c32_i32_390 : BitVec 32 := 32#32
  let v533 : BitVec 32 := Scalar.remsi v532 c32_i32_390
  let c1_i32_393 : BitVec 32 := 1#32
  let v536 : BitVec 32 := Scalar.muli v533 c1_i32_393
  let v537 : BitVec 32 := Scalar.addi c0_i32_394 v536
  v537.toNat
def k0_cond2 (i : grid0.Coords) : BitVec 1 :=
  let arg1 : BitVec 32 := BitVec.ofNat 32 (i 1).val
  let c0_i32_2 : BitVec 32 := 0#32
  let v8 : BitVec 1 := Scalar.cmpi .eq arg1 c0_i32_2
  let v9 : BitVec 32 := Scalar.extui v8
  let c0_i32_3 : BitVec 32 := 0#32
  let v10 : BitVec 1 := Scalar.cmpi .ne v9 c0_i32_3
  v10

def k0_cond3 (i : grid0.Coords) (d0 : Dev nD) : BitVec 1 :=
  let arg0 : BitVec 32 := BitVec.ofNat 32 (i 0).val
  let c8_i32 : BitVec 32 := 8#32
  let v34 : BitVec 32 := Scalar.muli arg0 c8_i32
  let c0_i32_14 : BitVec 32 := 0#32
  let v35 : BitVec 32 := Scalar.addi v34 c0_i32_14
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v36 : BitVec 1 := Scalar.cmpi .ne v35 v2
  let v37 : BitVec 32 := Scalar.extui v36
  let c0_i32_15 : BitVec 32 := 0#32
  let v38 : BitVec 1 := Scalar.cmpi .ne v37 c0_i32_15
  v38

def k0_off7 (i : grid0.Coords) : Fin 1 → Nat :=
  let arg0 : BitVec 32 := BitVec.ofNat 32 (i 0).val
  let c8_i32 : BitVec 32 := 8#32
  let v34 : BitVec 32 := Scalar.muli arg0 c8_i32
  let c0_i32_14 : BitVec 32 := 0#32
  let v35 : BitVec 32 := Scalar.addi v34 c0_i32_14
  ![v35.toNat]
def k0_off8 (i : grid0.Coords) : Fin 2 → Nat :=
  let c0_i32_36 : BitVec 32 := 0#32
  let arg0 : BitVec 32 := BitVec.ofNat 32 (i 0).val
  let c8_i32 : BitVec 32 := 8#32
  let v34 : BitVec 32 := Scalar.muli arg0 c8_i32
  let c0_i32_14 : BitVec 32 := 0#32
  let v35 : BitVec 32 := Scalar.addi v34 c0_i32_14
  let c128_i32_33 : BitVec 32 := 128#32
  let v75 : BitVec 32 := Scalar.muli v35 c128_i32_33
  ![0, v75.toNat]
def k0_off9 (i : grid0.Coords) : Fin 2 → Nat :=
  let arg0 : BitVec 32 := BitVec.ofNat 32 (i 0).val
  let c8_i32 : BitVec 32 := 8#32
  let v34 : BitVec 32 := Scalar.muli arg0 c8_i32
  let c0_i32_14 : BitVec 32 := 0#32
  let v35 : BitVec 32 := Scalar.addi v34 c0_i32_14
  let c128_i32 : BitVec 32 := 128#32
  let v74 : BitVec 32 := Scalar.muli v35 c128_i32
  let c0_i32_37 : BitVec 32 := 0#32
  ![v74.toNat, 0]
def k0_cond4 (i : grid0.Coords) (d0 : Dev nD) : BitVec 1 :=
  let arg0 : BitVec 32 := BitVec.ofNat 32 (i 0).val
  let c8_i32_16 : BitVec 32 := 8#32
  let v39 : BitVec 32 := Scalar.muli arg0 c8_i32_16
  let c1_i32_17 : BitVec 32 := 1#32
  let v40 : BitVec 32 := Scalar.addi v39 c1_i32_17
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v41 : BitVec 1 := Scalar.cmpi .ne v40 v2
  let v42 : BitVec 32 := Scalar.extui v41
  let c0_i32_18 : BitVec 32 := 0#32
  let v43 : BitVec 1 := Scalar.cmpi .ne v42 c0_i32_18
  v43

def k0_off10 (i : grid0.Coords) : Fin 1 → Nat :=
  let arg0 : BitVec 32 := BitVec.ofNat 32 (i 0).val
  let c8_i32_16 : BitVec 32 := 8#32
  let v39 : BitVec 32 := Scalar.muli arg0 c8_i32_16
  let c1_i32_17 : BitVec 32 := 1#32
  let v40 : BitVec 32 := Scalar.addi v39 c1_i32_17
  ![v40.toNat]
def k0_off11 (i : grid0.Coords) : Fin 2 → Nat :=
  let c0_i32_36 : BitVec 32 := 0#32
  let arg0 : BitVec 32 := BitVec.ofNat 32 (i 0).val
  let c8_i32_16 : BitVec 32 := 8#32
  let v39 : BitVec 32 := Scalar.muli arg0 c8_i32_16
  let c1_i32_17 : BitVec 32 := 1#32
  let v40 : BitVec 32 := Scalar.addi v39 c1_i32_17
  let c128_i32_33 : BitVec 32 := 128#32
  let v75 : BitVec 32 := Scalar.muli v40 c128_i32_33
  ![0, v75.toNat]
def k0_off12 (i : grid0.Coords) : Fin 2 → Nat :=
  let arg0 : BitVec 32 := BitVec.ofNat 32 (i 0).val
  let c8_i32_16 : BitVec 32 := 8#32
  let v39 : BitVec 32 := Scalar.muli arg0 c8_i32_16
  let c1_i32_17 : BitVec 32 := 1#32
  let v40 : BitVec 32 := Scalar.addi v39 c1_i32_17
  let c128_i32 : BitVec 32 := 128#32
  let v74 : BitVec 32 := Scalar.muli v40 c128_i32
  let c0_i32_37 : BitVec 32 := 0#32
  ![v74.toNat, 0]
def k0_cond5 (i : grid0.Coords) (d0 : Dev nD) : BitVec 1 :=
  let arg0 : BitVec 32 := BitVec.ofNat 32 (i 0).val
  let c8_i32_19 : BitVec 32 := 8#32
  let v44 : BitVec 32 := Scalar.muli arg0 c8_i32_19
  let c2_i32 : BitVec 32 := 2#32
  let v45 : BitVec 32 := Scalar.addi v44 c2_i32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v46 : BitVec 1 := Scalar.cmpi .ne v45 v2
  let v47 : BitVec 32 := Scalar.extui v46
  let c0_i32_20 : BitVec 32 := 0#32
  let v48 : BitVec 1 := Scalar.cmpi .ne v47 c0_i32_20
  v48

def k0_off13 (i : grid0.Coords) : Fin 1 → Nat :=
  let arg0 : BitVec 32 := BitVec.ofNat 32 (i 0).val
  let c8_i32_19 : BitVec 32 := 8#32
  let v44 : BitVec 32 := Scalar.muli arg0 c8_i32_19
  let c2_i32 : BitVec 32 := 2#32
  let v45 : BitVec 32 := Scalar.addi v44 c2_i32
  ![v45.toNat]
def k0_off14 (i : grid0.Coords) : Fin 2 → Nat :=
  let c0_i32_36 : BitVec 32 := 0#32
  let arg0 : BitVec 32 := BitVec.ofNat 32 (i 0).val
  let c8_i32_19 : BitVec 32 := 8#32
  let v44 : BitVec 32 := Scalar.muli arg0 c8_i32_19
  let c2_i32 : BitVec 32 := 2#32
  let v45 : BitVec 32 := Scalar.addi v44 c2_i32
  let c128_i32_33 : BitVec 32 := 128#32
  let v75 : BitVec 32 := Scalar.muli v45 c128_i32_33
  ![0, v75.toNat]
def k0_off15 (i : grid0.Coords) : Fin 2 → Nat :=
  let arg0 : BitVec 32 := BitVec.ofNat 32 (i 0).val
  let c8_i32_19 : BitVec 32 := 8#32
  let v44 : BitVec 32 := Scalar.muli arg0 c8_i32_19
  let c2_i32 : BitVec 32 := 2#32
  let v45 : BitVec 32 := Scalar.addi v44 c2_i32
  let c128_i32 : BitVec 32 := 128#32
  let v74 : BitVec 32 := Scalar.muli v45 c128_i32
  let c0_i32_37 : BitVec 32 := 0#32
  ![v74.toNat, 0]
def k0_cond6 (i : grid0.Coords) (d0 : Dev nD) : BitVec 1 :=
  let arg0 : BitVec 32 := BitVec.ofNat 32 (i 0).val
  let c8_i32_21 : BitVec 32 := 8#32
  let v49 : BitVec 32 := Scalar.muli arg0 c8_i32_21
  let c3_i32_22 : BitVec 32 := 3#32
  let v50 : BitVec 32 := Scalar.addi v49 c3_i32_22
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v51 : BitVec 1 := Scalar.cmpi .ne v50 v2
  let v52 : BitVec 32 := Scalar.extui v51
  let c0_i32_23 : BitVec 32 := 0#32
  let v53 : BitVec 1 := Scalar.cmpi .ne v52 c0_i32_23
  v53

def k0_off16 (i : grid0.Coords) : Fin 1 → Nat :=
  let arg0 : BitVec 32 := BitVec.ofNat 32 (i 0).val
  let c8_i32_21 : BitVec 32 := 8#32
  let v49 : BitVec 32 := Scalar.muli arg0 c8_i32_21
  let c3_i32_22 : BitVec 32 := 3#32
  let v50 : BitVec 32 := Scalar.addi v49 c3_i32_22
  ![v50.toNat]
def k0_off17 (i : grid0.Coords) : Fin 2 → Nat :=
  let c0_i32_36 : BitVec 32 := 0#32
  let arg0 : BitVec 32 := BitVec.ofNat 32 (i 0).val
  let c8_i32_21 : BitVec 32 := 8#32
  let v49 : BitVec 32 := Scalar.muli arg0 c8_i32_21
  let c3_i32_22 : BitVec 32 := 3#32
  let v50 : BitVec 32 := Scalar.addi v49 c3_i32_22
  let c128_i32_33 : BitVec 32 := 128#32
  let v75 : BitVec 32 := Scalar.muli v50 c128_i32_33
  ![0, v75.toNat]
def k0_off18 (i : grid0.Coords) : Fin 2 → Nat :=
  let arg0 : BitVec 32 := BitVec.ofNat 32 (i 0).val
  let c8_i32_21 : BitVec 32 := 8#32
  let v49 : BitVec 32 := Scalar.muli arg0 c8_i32_21
  let c3_i32_22 : BitVec 32 := 3#32
  let v50 : BitVec 32 := Scalar.addi v49 c3_i32_22
  let c128_i32 : BitVec 32 := 128#32
  let v74 : BitVec 32 := Scalar.muli v50 c128_i32
  let c0_i32_37 : BitVec 32 := 0#32
  ![v74.toNat, 0]
def k0_cond7 (i : grid0.Coords) (d0 : Dev nD) : BitVec 1 :=
  let arg0 : BitVec 32 := BitVec.ofNat 32 (i 0).val
  let c8_i32_24 : BitVec 32 := 8#32
  let v54 : BitVec 32 := Scalar.muli arg0 c8_i32_24
  let c4_i32 : BitVec 32 := 4#32
  let v55 : BitVec 32 := Scalar.addi v54 c4_i32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v56 : BitVec 1 := Scalar.cmpi .ne v55 v2
  let v57 : BitVec 32 := Scalar.extui v56
  let c0_i32_25 : BitVec 32 := 0#32
  let v58 : BitVec 1 := Scalar.cmpi .ne v57 c0_i32_25
  v58

def k0_off19 (i : grid0.Coords) : Fin 1 → Nat :=
  let arg0 : BitVec 32 := BitVec.ofNat 32 (i 0).val
  let c8_i32_24 : BitVec 32 := 8#32
  let v54 : BitVec 32 := Scalar.muli arg0 c8_i32_24
  let c4_i32 : BitVec 32 := 4#32
  let v55 : BitVec 32 := Scalar.addi v54 c4_i32
  ![v55.toNat]
def k0_off20 (i : grid0.Coords) : Fin 2 → Nat :=
  let c0_i32_36 : BitVec 32 := 0#32
  let arg0 : BitVec 32 := BitVec.ofNat 32 (i 0).val
  let c8_i32_24 : BitVec 32 := 8#32
  let v54 : BitVec 32 := Scalar.muli arg0 c8_i32_24
  let c4_i32 : BitVec 32 := 4#32
  let v55 : BitVec 32 := Scalar.addi v54 c4_i32
  let c128_i32_33 : BitVec 32 := 128#32
  let v75 : BitVec 32 := Scalar.muli v55 c128_i32_33
  ![0, v75.toNat]
def k0_off21 (i : grid0.Coords) : Fin 2 → Nat :=
  let arg0 : BitVec 32 := BitVec.ofNat 32 (i 0).val
  let c8_i32_24 : BitVec 32 := 8#32
  let v54 : BitVec 32 := Scalar.muli arg0 c8_i32_24
  let c4_i32 : BitVec 32 := 4#32
  let v55 : BitVec 32 := Scalar.addi v54 c4_i32
  let c128_i32 : BitVec 32 := 128#32
  let v74 : BitVec 32 := Scalar.muli v55 c128_i32
  let c0_i32_37 : BitVec 32 := 0#32
  ![v74.toNat, 0]
def k0_cond8 (i : grid0.Coords) (d0 : Dev nD) : BitVec 1 :=
  let arg0 : BitVec 32 := BitVec.ofNat 32 (i 0).val
  let c8_i32_26 : BitVec 32 := 8#32
  let v59 : BitVec 32 := Scalar.muli arg0 c8_i32_26
  let c5_i32 : BitVec 32 := 5#32
  let v60 : BitVec 32 := Scalar.addi v59 c5_i32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v61 : BitVec 1 := Scalar.cmpi .ne v60 v2
  let v62 : BitVec 32 := Scalar.extui v61
  let c0_i32_27 : BitVec 32 := 0#32
  let v63 : BitVec 1 := Scalar.cmpi .ne v62 c0_i32_27
  v63

def k0_off22 (i : grid0.Coords) : Fin 1 → Nat :=
  let arg0 : BitVec 32 := BitVec.ofNat 32 (i 0).val
  let c8_i32_26 : BitVec 32 := 8#32
  let v59 : BitVec 32 := Scalar.muli arg0 c8_i32_26
  let c5_i32 : BitVec 32 := 5#32
  let v60 : BitVec 32 := Scalar.addi v59 c5_i32
  ![v60.toNat]
def k0_off23 (i : grid0.Coords) : Fin 2 → Nat :=
  let c0_i32_36 : BitVec 32 := 0#32
  let arg0 : BitVec 32 := BitVec.ofNat 32 (i 0).val
  let c8_i32_26 : BitVec 32 := 8#32
  let v59 : BitVec 32 := Scalar.muli arg0 c8_i32_26
  let c5_i32 : BitVec 32 := 5#32
  let v60 : BitVec 32 := Scalar.addi v59 c5_i32
  let c128_i32_33 : BitVec 32 := 128#32
  let v75 : BitVec 32 := Scalar.muli v60 c128_i32_33
  ![0, v75.toNat]
def k0_off24 (i : grid0.Coords) : Fin 2 → Nat :=
  let arg0 : BitVec 32 := BitVec.ofNat 32 (i 0).val
  let c8_i32_26 : BitVec 32 := 8#32
  let v59 : BitVec 32 := Scalar.muli arg0 c8_i32_26
  let c5_i32 : BitVec 32 := 5#32
  let v60 : BitVec 32 := Scalar.addi v59 c5_i32
  let c128_i32 : BitVec 32 := 128#32
  let v74 : BitVec 32 := Scalar.muli v60 c128_i32
  let c0_i32_37 : BitVec 32 := 0#32
  ![v74.toNat, 0]
def k0_cond9 (i : grid0.Coords) (d0 : Dev nD) : BitVec 1 :=
  let arg0 : BitVec 32 := BitVec.ofNat 32 (i 0).val
  let c8_i32_28 : BitVec 32 := 8#32
  let v64 : BitVec 32 := Scalar.muli arg0 c8_i32_28
  let c6_i32 : BitVec 32 := 6#32
  let v65 : BitVec 32 := Scalar.addi v64 c6_i32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v66 : BitVec 1 := Scalar.cmpi .ne v65 v2
  let v67 : BitVec 32 := Scalar.extui v66
  let c0_i32_29 : BitVec 32 := 0#32
  let v68 : BitVec 1 := Scalar.cmpi .ne v67 c0_i32_29
  v68

def k0_off25 (i : grid0.Coords) : Fin 1 → Nat :=
  let arg0 : BitVec 32 := BitVec.ofNat 32 (i 0).val
  let c8_i32_28 : BitVec 32 := 8#32
  let v64 : BitVec 32 := Scalar.muli arg0 c8_i32_28
  let c6_i32 : BitVec 32 := 6#32
  let v65 : BitVec 32 := Scalar.addi v64 c6_i32
  ![v65.toNat]
def k0_off26 (i : grid0.Coords) : Fin 2 → Nat :=
  let c0_i32_36 : BitVec 32 := 0#32
  let arg0 : BitVec 32 := BitVec.ofNat 32 (i 0).val
  let c8_i32_28 : BitVec 32 := 8#32
  let v64 : BitVec 32 := Scalar.muli arg0 c8_i32_28
  let c6_i32 : BitVec 32 := 6#32
  let v65 : BitVec 32 := Scalar.addi v64 c6_i32
  let c128_i32_33 : BitVec 32 := 128#32
  let v75 : BitVec 32 := Scalar.muli v65 c128_i32_33
  ![0, v75.toNat]
def k0_off27 (i : grid0.Coords) : Fin 2 → Nat :=
  let arg0 : BitVec 32 := BitVec.ofNat 32 (i 0).val
  let c8_i32_28 : BitVec 32 := 8#32
  let v64 : BitVec 32 := Scalar.muli arg0 c8_i32_28
  let c6_i32 : BitVec 32 := 6#32
  let v65 : BitVec 32 := Scalar.addi v64 c6_i32
  let c128_i32 : BitVec 32 := 128#32
  let v74 : BitVec 32 := Scalar.muli v65 c128_i32
  let c0_i32_37 : BitVec 32 := 0#32
  ![v74.toNat, 0]
def k0_cond10 (i : grid0.Coords) (d0 : Dev nD) : BitVec 1 :=
  let arg0 : BitVec 32 := BitVec.ofNat 32 (i 0).val
  let c8_i32_30 : BitVec 32 := 8#32
  let v69 : BitVec 32 := Scalar.muli arg0 c8_i32_30
  let c7_i32_31 : BitVec 32 := 7#32
  let v70 : BitVec 32 := Scalar.addi v69 c7_i32_31
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v71 : BitVec 1 := Scalar.cmpi .ne v70 v2
  let v72 : BitVec 32 := Scalar.extui v71
  let c0_i32_32 : BitVec 32 := 0#32
  let v73 : BitVec 1 := Scalar.cmpi .ne v72 c0_i32_32
  v73

def k0_off28 (i : grid0.Coords) : Fin 1 → Nat :=
  let arg0 : BitVec 32 := BitVec.ofNat 32 (i 0).val
  let c8_i32_30 : BitVec 32 := 8#32
  let v69 : BitVec 32 := Scalar.muli arg0 c8_i32_30
  let c7_i32_31 : BitVec 32 := 7#32
  let v70 : BitVec 32 := Scalar.addi v69 c7_i32_31
  ![v70.toNat]
def k0_off29 (i : grid0.Coords) : Fin 2 → Nat :=
  let c0_i32_36 : BitVec 32 := 0#32
  let arg0 : BitVec 32 := BitVec.ofNat 32 (i 0).val
  let c8_i32_30 : BitVec 32 := 8#32
  let v69 : BitVec 32 := Scalar.muli arg0 c8_i32_30
  let c7_i32_31 : BitVec 32 := 7#32
  let v70 : BitVec 32 := Scalar.addi v69 c7_i32_31
  let c128_i32_33 : BitVec 32 := 128#32
  let v75 : BitVec 32 := Scalar.muli v70 c128_i32_33
  ![0, v75.toNat]
def k0_off30 (i : grid0.Coords) : Fin 2 → Nat :=
  let arg0 : BitVec 32 := BitVec.ofNat 32 (i 0).val
  let c8_i32_30 : BitVec 32 := 8#32
  let v69 : BitVec 32 := Scalar.muli arg0 c8_i32_30
  let c7_i32_31 : BitVec 32 := 7#32
  let v70 : BitVec 32 := Scalar.addi v69 c7_i32_31
  let c128_i32 : BitVec 32 := 128#32
  let v74 : BitVec 32 := Scalar.muli v70 c128_i32
  let c0_i32_37 : BitVec 32 := 0#32
  ![v74.toNat, 0]
def k0_off31 (i : grid0.Coords) : Fin 2 → Nat :=
  let c0 : Index := 0#32
  let arg0 : BitVec 32 := BitVec.ofNat 32 (i 0).val
  let c1024_i32 : BitVec 32 := 1024#32
  let v11 : BitVec 32 := Scalar.muli arg0 c1024_i32
  let v12 : Index := Scalar.indexCast v11
  ![0, v12.toNat]
def k0_cond11 (i : grid0.Coords) : BitVec 1 :=
  let arg0 : BitVec 32 := BitVec.ofNat 32 (i 0).val
  let c0_i32_6 : BitVec 32 := 0#32
  let v18 : BitVec 1 := Scalar.cmpi .eq arg0 c0_i32_6
  let v19 : BitVec 32 := Scalar.extui v18
  let c0_i32_7 : BitVec 32 := 0#32
  let v20 : BitVec 1 := Scalar.cmpi .ne v19 c0_i32_7
  v20

def k0_off32 (i : grid0.Coords) : Fin 2 → Nat :=
  let c0_15 : Index := 0#32
  let arg1 : BitVec 32 := BitVec.ofNat 32 (i 1).val
  let c1024_i32_14 : BitVec 32 := 1024#32
  let v34 : BitVec 32 := Scalar.muli arg1 c1024_i32_14
  let v35 : Index := Scalar.indexCast v34
  ![0, v35.toNat]
def k0_cond12 (i : grid0.Coords) : BitVec 1 :=
  let arg0 : BitVec 32 := BitVec.ofNat 32 (i 0).val
  let c0_i32_8 : BitVec 32 := 0#32
  let v21 : BitVec 1 := Scalar.cmpi .sgt arg0 c0_i32_8
  let c3_i32 : BitVec 32 := 3#32
  let v22 : BitVec 1 := Scalar.cmpi .slt arg0 c3_i32
  let v23 : BitVec 1 := Scalar.andi v21 v22
  let v24 : BitVec 32 := Scalar.extui v23
  let c0_i32_9 : BitVec 32 := 0#32
  let v25 : BitVec 1 := Scalar.cmpi .ne v24 c0_i32_9
  v25

def k0_off33 (i : grid0.Coords) : Fin 2 → Nat :=
  let c0_15 : Index := 0#32
  let arg1 : BitVec 32 := BitVec.ofNat 32 (i 1).val
  let c1024_i32_14 : BitVec 32 := 1024#32
  let v34 : BitVec 32 := Scalar.muli arg1 c1024_i32_14
  let v35 : Index := Scalar.indexCast v34
  ![0, v35.toNat]
def k0_cond13 (i : grid0.Coords) : BitVec 1 :=
  let arg0 : BitVec 32 := BitVec.ofNat 32 (i 0).val
  let c3_i32_10 : BitVec 32 := 3#32
  let v26 : BitVec 1 := Scalar.cmpi .eq arg0 c3_i32_10
  let v27 : BitVec 32 := Scalar.extui v26
  let c0_i32_11 : BitVec 32 := 0#32
  let v28 : BitVec 1 := Scalar.cmpi .ne v27 c0_i32_11
  v28

def k0_off34 (i : grid0.Coords) : Fin 2 → Nat :=
  let c0_15 : Index := 0#32
  let arg1 : BitVec 32 := BitVec.ofNat 32 (i 1).val
  let c1024_i32_14 : BitVec 32 := 1024#32
  let v34 : BitVec 32 := Scalar.muli arg1 c1024_i32_14
  let v35 : Index := Scalar.indexCast v34
  ![0, v35.toNat]
def k0_cond14 (i : grid0.Coords) : BitVec 1 :=
  let arg0 : BitVec 32 := BitVec.ofNat 32 (i 0).val
  let c3_i32_12 : BitVec 32 := 3#32
  let v29 : BitVec 1 := Scalar.cmpi .eq arg0 c3_i32_12
  let arg1 : BitVec 32 := BitVec.ofNat 32 (i 1).val
  let c7_i32 : BitVec 32 := 7#32
  let v30 : BitVec 1 := Scalar.cmpi .eq arg1 c7_i32
  let v31 : BitVec 1 := Scalar.andi v29 v30
  let v32 : BitVec 32 := Scalar.extui v31
  let c0_i32_13 : BitVec 32 := 0#32
  let v33 : BitVec 1 := Scalar.cmpi .ne v32 c0_i32_13
  v33

def k0_off35 (d0 : Dev nD) (c1_i32_14 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v34 : BitVec 32 := Scalar.addi v2 c1_i32_14
  let c32_i32_15 : BitVec 32 := 32#32
  let v35 : BitVec 32 := Scalar.remsi v34 c32_i32_15
  ![v35.toNat]
def k0_off36 (d0 : Dev nD) (c1_i32_14 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v34 : BitVec 32 := Scalar.addi v2 c1_i32_14
  let c32_i32_15 : BitVec 32 := 32#32
  let v35 : BitVec 32 := Scalar.remsi v34 c32_i32_15
  let c128_i32 : BitVec 32 := 128#32
  let v36 : BitVec 32 := Scalar.muli v35 c128_i32
  let c0_i32_18 : BitVec 32 := 0#32
  ![v36.toNat, 0]
def k0_off37 (d0 : Dev nD) : Fin 2 → Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_16 : BitVec 32 := 128#32
  let v37 : BitVec 32 := Scalar.muli v2 c128_i32_16
  ![0, v37.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Protocol.lean ====
/-
# The exchange's protocol

Every device keeps its block of `x` (4096 rows, 128 columns) in a buffer cut in 32 row blocks, and gathers in a second
buffer (128 rows, 4096 columns) its own row block of every device's columns. Device `c` first tells each of the 31 other
devices, on the runtime's barrier semaphore, that its gathering buffer may be written, and waits for their 31 notices;
it then sends row block `d` of its buffer into column block `c` of device `d`'s gathering buffer, for every `d` other
than itself; later it waits, block by block, for the 31 landings in its own gathering buffer, and at the end for its 31
sends to have left.

For each semaphore (one round each):
* the barrier semaphore of `c`: 31 units, one from each other device `d`, which hands over `d`'s column block `c`;
* send semaphore `t` of `c`, `t` other than `c`: one block's credit, from the transfer to device `t`, which hands back row
  block `t` of `c`'s buffer as it was sent;
* receive semaphore `s` of `c`, `s` other than `c`: one block's credit, from device `s`'s transfer, which hands over column
  block `s` of `c`'s gathering buffer at row block `c` of `s`'s block of `x`.
Levels: the pipeline's own semaphores and the send ones below the barrier, the barrier below the receive ones.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

/-- The device that the `j`-th signal and the `j`-th transfer of device `c` are addressed to. -/
def tgt (c : Dev nD) (j : Fin 31) : Dev nD := ⟨(c.val + j.val + 1) % 32, Nat.mod_lt _ (by omega)⟩

theorem tgt_val (c : Dev nD) (j : Fin 31) : (tgt c j).val = (c.val + j.val + 1) % 32 := rfl

theorem tgt_ne (c : Dev nD) (j : Fin 31) : tgt c j ≠ c := fun h => by
  have h := congrArg Fin.val h
  rw [tgt_val] at h
  have hc : c.val < 32 := c.isLt
  have hj := j.isLt
  omega

theorem tgt_inj (c : Dev nD) : Function.Injective (tgt c) := fun j j' h => by
  have h := congrArg Fin.val h
  rw [tgt_val, tgt_val] at h
  have hc : c.val < 32 := c.isLt
  have hj := j.isLt
  have hj' := j'.isLt
  exact Fin.ext (by omega)

/-- The peers' numbering turned round: `c` is peer `30 - j` of its own peer `j`. -/
def back (j : Fin 31) : Fin 31 := ⟨30 - j.val, by omega⟩

theorem back_back (j : Fin 31) : back (back j) = j := Fin.ext (by have := j.isLt; simp only [back]; omega)

theorem tgt_back (c : Dev nD) (j : Fin 31) : tgt (tgt c j) (back j) = c := Fin.ext (by
  rw [tgt_val, tgt_val]
  have hc : c.val < 32 := c.isLt
  have hj := j.isLt
  simp only [back]
  omega)

theorem exists_tgt {c d : Dev nD} (h : d ≠ c) : ∃ j, tgt c j = d := by
  have hc : c.val < 32 := c.isLt
  have hd : d.val < 32 := d.isLt
  have hv : d.val ≠ c.val := fun e => h (Fin.ext e)
  refine ⟨⟨(d.val + 31 - c.val) % 32, by omega⟩, Fin.ext ?_⟩
  rw [tgt_val]
  simp only
  omega

/-- The other devices are the 31 peers. -/
theorem erase_eq_map (c : Dev nD) : Finset.univ.erase c = Finset.univ.map ⟨tgt c, tgt_inj c⟩ := by
  ext d
  rw [Finset.mem_erase, Finset.mem_map]
  constructor
  · rintro ⟨h, -⟩
    obtain ⟨j, hj⟩ := exists_tgt h
    exact ⟨j, Finset.mem_univ _, hj⟩
  · rintro ⟨j, -, rfl⟩
    exact ⟨tgt_ne c j, Finset.mem_univ _⟩

/-- Pairs (device, peer) seen from the other side. -/
def turn : Dev nD × Fin 31 ≃ Dev nD × Fin 31 where
  toFun p := (tgt p.1 p.2, back p.2)
  invFun p := (tgt p.1 p.2, back p.2)
  left_inv p := by simp only [tgt_back, back_back]
  right_inv p := by simp only [tgt_back, back_back]

/-! ## The steps still to do, and those done -/

def rest (k : ℕ) : Finset (Fin 31) := Finset.univ.filter fun j => k ≤ j.val
def done (k : ℕ) : Finset (Fin 31) := Finset.univ.filter fun j => j.val < k

theorem rest_zero : rest 0 = Finset.univ := Finset.filter_true_of_mem fun _ _ => Nat.zero_le _
theorem rest_last : rest 31 = ∅ := Finset.filter_false_of_mem fun j _ => by have := j.isLt; omega
theorem done_zero : done 0 = ∅ := Finset.filter_false_of_mem fun _ _ => Nat.not_lt_zero _
theorem done_last : done 31 = Finset.univ := Finset.filter_true_of_mem fun j _ => j.isLt

theorem notMem_rest (j : Fin 31) : j ∉ rest (j.val + 1) := by unfold rest; rw [Finset.mem_filter]; omega
theorem rest_eq (j : Fin 31) : rest j.val = insert j (rest (j.val + 1)) := by
  ext i
  unfold rest
  rw [Finset.mem_insert, Finset.mem_filter, Finset.mem_filter, Fin.ext_iff]
  simp only [Finset.mem_univ, true_and]
  omega
theorem notMem_done (j : Fin 31) : j ∉ done j.val := by unfold done; rw [Finset.mem_filter]; omega
theorem done_eq (j : Fin 31) : done (j.val + 1) = insert j (done j.val) := by
  ext i
  unfold done
  rw [Finset.mem_insert, Finset.mem_filter, Finset.mem_filter, Fin.ext_iff]
  simp only [Finset.mem_univ, true_and]
  omega

/-! ## The semaphores -/

/-- The runtime's barrier semaphore of collective id 0. -/
abbrev barS : Sem sig := (SemArray.scalar (sig.barrier 0 rfl) : Sems sig S_).sem
/-- Send semaphore `t` and receive semaphore `s`. -/
def sendS (t : Dev nD) : DmaSem sig := ⟨5 + t.val, by have h : t.val < 32 := t.isLt; show 5 + t.val < 69; omega⟩
def recvS (s : Dev nD) : DmaSem sig := ⟨37 + s.val, by have h : s.val < 32 := s.isLt; show 37 + s.val < 69; omega⟩

abbrev barCell (c : Dev nD) : GSem nD τ sig := ((c : Thread nD τ), .reg barS)
abbrev sendCell (c t : Dev nD) : GSem nD τ sig := ((c : Thread nD τ), .dma (sendS t))
abbrev recvCell (c s : Dev nD) : GSem nD τ sig := ((c : Thread nD τ), .dma (recvS s))

theorem sendS_inj {t t' : Dev nD} (h : sendS t = sendS t') : t = t' := by
  have h := congrArg Fin.val h
  exact Fin.ext (by simp only [sendS] at h; omega)
theorem recvS_inj {t t' : Dev nD} (h : recvS t = recvS t') : t = t' := by
  have h := congrArg Fin.val h
  exact Fin.ext (by simp only [recvS] at h; omega)
theorem sendS_ne_recvS (t s : Dev nD) : sendS t ≠ recvS s := fun h => by
  have h := congrArg Fin.val h
  have ht : t.val < 32 := t.isLt
  simp only [sendS, recvS] at h
  omega

/-- The kernel's own semaphores, sends first. -/
abbrev osem (k : Bool × Dev nD) : SemLoc sig := if k.1 then .dma (recvS k.2) else .dma (sendS k.2)
/-- All of the exchange's semaphores: the barrier, then the kernel's own. -/
abbrev csem : Option (Bool × Dev nD) → SemLoc sig := fun | none => .reg barS | some k => osem k
abbrev kcell (ck : Dev nD × Option (Bool × Dev nD)) : GSem nD τ sig := ((ck.1 : Thread nD τ), csem ck.2)

theorem osem_inj : Function.Injective osem := by
  rintro ⟨a, t⟩ ⟨b, s⟩ h
  cases a <;> cases b <;> simp only [osem, if_true, if_false, Bool.false_eq_true] at h
  · rw [sendS_inj (SemLoc.dma.inj h)]
  · exact absurd (SemLoc.dma.inj h) (sendS_ne_recvS t s)
  · exact absurd (SemLoc.dma.inj h).symm (sendS_ne_recvS s t)
  · rw [recvS_inj (SemLoc.dma.inj h)]

theorem csem_inj : Function.Injective csem := by
  rintro (_ | a) (_ | b) h
  · rfl
  · exfalso; simp only [csem, osem] at h; split at h <;> cases h
  · exfalso; simp only [csem, osem] at h; split at h <;> cases h
  · exact congrArg some (osem_inj h)

theorem kcell_inj : Function.Injective kcell := by
  rintro ⟨c, k⟩ ⟨c', k'⟩ h
  have h1 : c = c' := congrArg Prod.fst (congrArg Prod.fst h)
  have h2 : k = k' := csem_inj (congrArg Prod.snd h)
  rw [h1, h2]

theorem sem_send_eq (d0 : Dev nD) (off : Fin 1 → ℕ) (inb) (t : Dev nD) (h : off = ![t.val]) :
    ((cc0_scratch3.slice (Rect.unit (s := S32) off S1.size inb)).squeeze S_ squeezes_S1_S_).sem = sendS t := by
  subst h; revert t; decide +kernel

theorem sem_recv_eq (off : Fin 1 → ℕ) (inb) (t : Dev nD) (h : off = ![t.val]) :
    ((cc0_scratch4.slice (Rect.unit (s := S32) off S1.size inb)).squeeze S_ squeezes_S1_S_).sem = recvS t := by
  subst h; revert t; decide +kernel

/-! ## The buffers, their blocks and contents -/

abbrev xsM : Memref sig .tc .vmem S4096x128 .bf16 := Memref.whole cc0_scratch0
abbrev xtM : Memref sig .tc .vmem S128x4096 .bf16 := Memref.whole cc0_scratch1
abbrev acM : Memref sig .tc .vmem S128x8192 .f32 := Memref.whole cc0_scratch2

/-- Row block `t` of the sending buffer, column block `s` of the gathering buffer. -/
def rowset (t : ℕ) : Finset S4096x128.Idx := Finset.univ.filter fun i => (i 0).val / 128 = t
def colset (s : ℕ) : Finset S128x4096.Idx := Finset.univ.filter fun i => (i 1).val / 128 = s

theorem mem_rowset {t : ℕ} {i : S4096x128.Idx} : i ∈ rowset t ↔ (i 0).val / 128 = t := by
  unfold rowset; rw [Finset.mem_filter]; exact and_iff_right (Finset.mem_univ _)
theorem mem_colset {t : ℕ} {i : S128x4096.Idx} : i ∈ colset t ↔ (i 1).val / 128 = t := by
  unfold colset; rw [Finset.mem_filter]; exact and_iff_right (Finset.mem_univ _)

def xbPts (c : Dev nD) (I : Finset S4096x128.Idx) (f : S4096x128.Idx → Elt F .bf16) : sProp 𝕄 :=
  ((c : Thread nD τ).loc cc0_scratch0) ↦[I]{fullShare} f
def xtPts (c : Dev nD) (I : Finset S128x4096.Idx) (f : S128x4096.Idx → Elt F .bf16) : sProp 𝕄 :=
  ((c : Thread nD τ).loc cc0_scratch1) ↦[I]{fullShare} f
def acPts (c : Dev nD) (f : S128x8192.Idx → Elt F .f32) : sProp 𝕄 :=
  ((c : Thread nD τ).loc cc0_scratch2) ↦{fullShare} f

omit [FloatOps F] in
instance xbPts_storable (c : Dev nD) (I f) : BI.Storable (upEmb : UEmb _ 𝕄) (xbPts (F := F) c I f) := by unfold xbPts; infer_instance
omit [FloatOps F] in
instance xtPts_storable (c : Dev nD) (I f) : BI.Storable (upEmb : UEmb _ 𝕄) (xtPts (F := F) c I f) := by unfold xtPts; infer_instance

/-- Device `c`'s block of `x` as the pipeline brings it in, and as the kernel keeps it. -/
def xst (c : Dev nD) : Vec F S4096x128 .bf16 :=
  (win0_0.blk ⟨0, by rw [N_0]; decide⟩).view.read (Elt F) (m ((c : Thread nD τ).loc main_arg0))
def XB (c : Dev nD) : S4096x128.Idx → Elt F .bf16 := k0_pay1 (xst m c)

/-- What device `c` gathers: column `128 s + k` of row `i` is column `k` of row `128 c + i` of device `s`'s block. -/
def XT (c : Dev nD) : S128x4096.Idx → Elt F .bf16 := fun i =>
  XB m ⟨(i 1).val / 128, by have : (i 1).val < 4096 := (i 1).isLt; show _ < 32; omega⟩
    (ix2 (n0 := 4096) (n1 := 128) ⟨128 * c.val + (i 0).val, by have : (i 0).val < 128 := (i 0).isLt; have h : c.val < 32 := c.isLt; omega⟩
      ⟨(i 1).val % 128, Nat.mod_lt _ (by omega)⟩)

theorem XT_apply (d s : Dev nD) (i : S128x4096.Idx) (z : S4096x128.Idx) (hs : (i 1).val / 128 = s.val)
    (h0 : (z 0).val = 128 * d.val + (i 0).val) (h1 : (z 1).val = (i 1).val % 128) : XT m d i = XB m s z := by
  unfold XT
  rw [show (⟨(i 1).val / 128, by rw [hs]; exact s.isLt⟩ : Dev nD) = s from Fin.ext hs]
  refine congrArg (XB m s) (funext fun a => Fin.ext ?_)
  match a with
  | ⟨0, _⟩ => exact h0.symm
  | ⟨1, _⟩ => exact h1.symm

/-- One block's credit. -/
abbrev N : ℕ := (xtM.slice (Rect.unit (s := S128x4096) ![0, 0] S128x128.size (by decide)) (fun _ => rfl)).view.dmaCredit
theorem N_pos : 0 < N := View.dmaCredit_pos _ (by decide)

/-! ## The schedule -/

/-- The device that a DMA semaphore of the exchange is numbered by, where it is one. -/
abbrev IsX (q : DmaSem sig) (c : Dev nD) : Prop := 5 ≤ q.val ∧ (q.val - 5) % 32 ≠ c.val

def dutiesOf (g : GSem nD τ sig) : Finset (Dev nD) :=
  match g.2 with
  | .reg s => if s = barS then Finset.univ.erase g.1.1 else ∅
  | .dma q => if IsX q g.1.1 then {g.1.1} else ∅

def payOf (g : GSem nD τ sig) (d : Dev nD) : sProp 𝕄 :=
  match g.2 with
  | .reg _ => iprop(∃ f, xtPts (F := F) d (colset g.1.1.val) f)
  | .dma q => if q.val < 37 then xbPts g.1.1 (rowset (q.val - 5)) (XB m g.1.1) else xtPts g.1.1 (colset (q.val - 37)) (XT m g.1.1)

def amtOf (g : GSem nD τ sig) : ℕ := match g.2 with | .reg _ => 1 | .dma _ => N

def Rd : Rounds.Schedule (GSem nD τ sig) (Dev nD) 𝕄 where
  duties g r := if r = 0 ∧ g.1.2 = .tc then dutiesOf g else ∅
  unitless _ := False
  amount g _ _ := amtOf g
  payload g _ d := payOf m g d
  amount_pos g _ _ _ := by
    unfold amtOf
    split
    · exact Nat.one_pos
    · exact N_pos

instance Rd_payload_storable (g : GSem nD τ sig) (r : ℕ) (d : Dev nD) :
    BI.Storable (upEmb : UEmb _ 𝕄) ((Rd (F := F) m).payload g r d) := by
  show BI.Storable upEmb (payOf m g d)
  unfold payOf
  (repeat' split) <;> infer_instance

section Sched
variable (c : Dev nD)

theorem duties_zero (sm : SemLoc sig) : (Rd (F := F) m).duties ((c : Thread nD τ), sm) 0 = dutiesOf ((c : Thread nD τ), sm) := by
  dsimp only [Rd]; exact if_pos ⟨rfl, rfl⟩

theorem duties_bar : (Rd (F := F) m).duties (barCell c) 0 = Finset.univ.erase c := by
  rw [duties_zero]
  dsimp only [dutiesOf]
  exact if_pos rfl
theorem duties_send {t : Dev nD} (h : t ≠ c) : (Rd (F := F) m).duties (sendCell c t) 0 = {c} := by
  rw [duties_zero]
  dsimp only [dutiesOf]
  refine if_pos ⟨Nat.le_add_right 5 _, fun e => h (Fin.ext ?_)⟩
  have ht : t.val < 32 := t.isLt
  simp only [sendS] at e
  omega
theorem duties_recv {t : Dev nD} (h : t ≠ c) : (Rd (F := F) m).duties (recvCell c t) 0 = {c} := by
  rw [duties_zero]
  dsimp only [dutiesOf]
  refine if_pos ⟨by simp only [recvS]; omega, fun e => h (Fin.ext ?_)⟩
  have ht : t.val < 32 := t.isLt
  simp only [recvS] at e
  omega
theorem duties_send_self (r : ℕ) : (Rd (F := F) m).duties (sendCell c c) r = ∅ := by
  dsimp only [Rd, dutiesOf]
  split
  · refine if_neg fun e => e.2 ?_
    have ht : c.val < 32 := c.isLt
    simp only [sendS]
    omega
  · rfl
theorem duties_recv_self (r : ℕ) : (Rd (F := F) m).duties (recvCell c c) r = ∅ := by
  dsimp only [Rd, dutiesOf]
  split
  · refine if_neg fun e => e.2 ?_
    have ht : c.val < 32 := c.isLt
    simp only [recvS]
    omega
  · rfl
theorem duties_later (g : GSem nD τ sig) : ∀ r, 1 ≤ r → (Rd (F := F) m).duties g r = ∅ :=
  fun r hr => if_neg fun h => by omega

theorem amount_bar (d : Dev nD) : (Rd (F := F) m).amount (barCell c) 0 d = 1 := rfl
theorem amount_dma (q : DmaSem sig) (d : Dev nD) : (Rd (F := F) m).amount ((c : Thread nD τ), .dma q) 0 d = N := rfl

theorem expect_bar : (Rd (F := F) m).expect (barCell c) 0 = 31 := by
  unfold Schedule.expect Schedule.amountOf
  rw [duties_bar, Finset.sum_congr rfl fun d _ => amount_bar m c d, Finset.sum_const, Finset.card_erase_of_mem (Finset.mem_univ _),
    Finset.card_univ, smul_eq_mul]
  rfl
theorem expect_send {t : Dev nD} (h : t ≠ c) : (Rd (F := F) m).expect (sendCell c t) 0 = N := by
  unfold Schedule.expect Schedule.amountOf; rw [duties_send m c h, Finset.sum_singleton]; rfl
theorem expect_recv {t : Dev nD} (h : t ≠ c) : (Rd (F := F) m).expect (recvCell c t) 0 = N := by
  unfold Schedule.expect Schedule.amountOf; rw [duties_recv m c h, Finset.sum_singleton]; rfl

theorem payload_bar (d : Dev nD) : (Rd (F := F) m).payload (barCell c) 0 d = iprop(∃ f, xtPts (F := F) d (colset c.val) f) := rfl
theorem payload_send (t d : Dev nD) : (Rd (F := F) m).payload (sendCell c t) 0 d = xbPts c (rowset t.val) (XB m c) := by
  have ht : t.val < 32 := t.isLt
  show (if (sendS t).val < 37 then _ else _) = _
  rw [if_pos (by simp only [sendS]; omega)]
  simp only [sendS, Nat.add_sub_cancel_left]
theorem payload_recv (s d : Dev nD) : (Rd (F := F) m).payload (recvCell c s) 0 d = xtPts c (colset s.val) (XT m c) := by
  show (if (recvS s).val < 37 then _ else _) = _
  rw [if_neg (by simp only [recvS]; omega)]
  simp only [recvS, Nat.add_sub_cancel_left]

/-- What the barrier wait hands over: every peer's column block `c`. -/
theorem rest_bar : bigSep ((Rd (F := F) m).duties (barCell c) 0 \ ∅) (fun d => (Rd (F := F) m).payload (barCell c) 0 d)
    = bigSep Finset.univ fun j => iprop(∃ f, xtPts (F := F) (tgt c j) (colset c.val) f) := by
  rw [Finset.sdiff_empty, duties_bar, erase_eq_map, bigSep_map]
  rfl
theorem rest_send {t : Dev nD} (h : t ≠ c) :
    bigSep ((Rd (F := F) m).duties (sendCell c t) 0 \ ∅) (fun d => (Rd (F := F) m).payload (sendCell c t) 0 d) = xbPts c (rowset t.val) (XB m c) := by
  rw [Finset.sdiff_empty, duties_send m c h, bigSep_singleton, payload_send]
theorem rest_recv {t : Dev nD} (h : t ≠ c) :
    bigSep ((Rd (F := F) m).duties (recvCell c t) 0 \ ∅) (fun d => (Rd (F := F) m).payload (recvCell c t) 0 d) = xtPts c (colset t.val) (XT m c) := by
  rw [Finset.sdiff_empty, duties_recv m c h, bigSep_singleton, payload_recv]

end Sched

/-! ## What each device owes; the levels -/

def Osig (c : Dev nD) (k : ℕ) : CellTallies nD τ sig Unit := ∑ j ∈ rest k, tallyAt (barCell (tgt c j)) () 1
def Osend (c : Dev nD) (k : ℕ) : CellTallies nD τ sig Unit := ∑ j ∈ rest k, tallyAt (recvCell (tgt c j) c) () N
def O₀ (c : Dev nD) : CellTallies nD τ sig Unit := Osend c 0 + Osig c 0

theorem Osig_step (c : Dev nD) (j : Fin 31) : Osig c j.val = Osig c (j.val + 1) + tallyAt (barCell (tgt c j)) () 1 := by
  unfold Osig; rw [rest_eq j, Finset.sum_insert (notMem_rest j), add_comm]
theorem Osend_step (c : Dev nD) (j : Fin 31) : Osend c j.val = Osend c (j.val + 1) + tallyAt (recvCell (tgt c j) c) () N := by
  unfold Osend; rw [rest_eq j, Finset.sum_insert (notMem_rest j), add_comm]
theorem Osig_last (c : Dev nD) : Osig c 31 = 0 := by unfold Osig; rw [rest_last, Finset.sum_empty]
theorem Osend_last (c : Dev nD) : Osend c 31 = 0 := by unfold Osend; rw [rest_last, Finset.sum_empty]

theorem sum_tallies_apply {I : Type} (s : Finset I) (f : I → CellTallies nD τ sig Unit) (g : GSem nD τ sig) (u : Unit) :
    (∑ j ∈ s, f j) g u = ∑ j ∈ s, f j g u := by
  rw [Finset.sum_apply, Finsupp.finsetSum_apply]

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma q => if q.val < 37 then 0 else 2

theorem L_of_ne (g : GSem nD τ sig) (h : g.1.2 ≠ .tc) : L g = ∅ := if_neg h
theorem L_tc (c : Dev nD) (sm : SemLoc sig) : L ((c : Thread nD τ), sm) = {()} := if_pos rfl

theorem pos_of_sum {I : Type} {s : Finset I} {f : I → GSem nD τ sig} {n : ℕ} {g : GSem nD τ sig} {u : Unit}
    (h : 0 < (∑ j ∈ s, tallyAt (f j) () n : CellTallies nD τ sig Unit) g u) : ∃ j ∈ s, g = f j := by
  rw [sum_tallies_apply] at h
  by_contra hn
  push Not at hn
  rw [Finset.sum_eq_zero fun j hj => by rw [tallyAt_apply, if_neg fun e => hn j hj e.1]] at h
  exact Nat.lt_irrefl 0 h

theorem Osend_pos {c : Dev nD} {k : ℕ} {g : GSem nD τ sig} {u : Unit} (h : 0 < Osend c k g u) : ∃ j, g = recvCell (tgt c j) c := by
  obtain ⟨j, -, hj⟩ := pos_of_sum h; exact ⟨j, hj⟩
theorem O₀_pos {c : Dev nD} {g : GSem nD τ sig} {u : Unit} (h : 0 < O₀ c g u) :
    (∃ j, g = recvCell (tgt c j) c) ∨ ∃ j, g = barCell (tgt c j) := by
  unfold O₀ at h
  rw [Pi.add_apply, Finsupp.add_apply] at h
  rcases Nat.eq_zero_or_pos (Osend c 0 g u) with h0 | h0
  · rw [h0, Nat.zero_add] at h
    obtain ⟨j, -, hj⟩ := pos_of_sum h
    exact .inr ⟨j, hj⟩
  · exact .inl (Osend_pos h0)

theorem lv_recv (c s : Dev nD) (u : Unit) : lv (recvCell c s) u = 2 := if_neg (by simp only [recvS]; omega)
theorem lv_bar (c : Dev nD) (u : Unit) : lv (barCell c) u = 1 := rfl

theorem mayWait_stage (c : Dev nD) (q : DmaSem sig) (hq : q.val < 37) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact le_of_eq (if_pos hq))
      (fun g u hg => by
        rcases O₀_pos hg with ⟨j, rfl⟩ | ⟨j, rfl⟩
        · rw [lv_recv]; decide
        · rw [lv_bar]; decide)
  · rw [MayWait_zero]; iintro -; iempintro

/-- At its barrier wait a device owes receive credit only: receive cells, above its barrier cell. -/
theorem mayWait_bar (c : Dev nD) :
    (levAts L lv : sProp 𝕄) ⊢ MayWait (c : Thread nD τ) (.reg barS) () (Osend c 0) :=
  MayOwe.of_cut (L := L) (lev := lv) 1 (fun p hp => by rw [Finset.mem_singleton.mp hp, L_tc]; exact Finset.mem_singleton_self _)
    (fun g u hg => by obtain ⟨j, rfl⟩ := Osend_pos hg; exact Finset.mem_singleton_self _)
    (fun p hp => by rw [Finset.mem_singleton.mp hp]; exact le_of_eq rfl)
    (fun g u hg => by obtain ⟨j, rfl⟩ := Osend_pos hg; rw [lv_recv]; decide)

/-! ## The records every device may read -/

/-- The cells' invariants under the names `K` the launch allocated them at, and that every cell has reached round 0. -/
def records (K : Dev nD × Option (Bool × Dev nD) → ℕ) : sProp 𝕄 :=
  bigSep Finset.univ fun ck => iprop(cellInv ER (Rd m) (K ck) (kcell ck) ∗ reached ER (kcell ck) 0)

instance records_persistent (K) : BI.Persistent (records (F := F) m K) := by unfold records; infer_instance

theorem records_get (K) (ck : Dev nD × Option (Bool × Dev nD)) :
    records (F := F) m K ⊢ iprop(cellInv ER (Rd m) (K ck) (kcell ck) ∗ reached ER (kcell ck) 0) := by
  unfold records
  exact bigSep_elim (Finset.mem_univ ck)

end Cert.KernelIdealProof
-- ==== Proof.Steps.lean ====
/-
# The exchange's steps

One lemma per kind of operation on the exchange's semaphores, each at a symbolic device and a symbolic peer: the notice
to a peer, the wait for the notices, the transfer to a peer, the wait for a landing, the wait for a send. Each carries
the whole family of the steps still to do, so that a run of them is the lemma applied as often.
-/
module

public import proofs.«01_k».proof.Proof.Protocol

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A program run on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Option (Bool × Dev nD) → ℕ)

/-- What device `c` owes, whatever it has waited on. -/
def ow (c : Dev nD) (O : CellTallies nD τ sig Unit) : sProp 𝕄 := iprop(∃ W, owes (c : Thread nD τ) O W)

theorem bigSep_ins {I : Type} [DecidableEq I] {s : Finset I} {i : I} (hi : i ∉ s) {Φ : I → sProp 𝕄} :
    bigSep (insert i s) Φ = iprop(Φ i ∗ bigSep s Φ) := bigSep_insert hi

/-! ## The blocks as views -/

/-- A block of the sending buffer, and of the gathering buffer, at an offset. -/
abbrev xsB (off : Fin 2 → ℕ) (inb : ∀ a : Fin S4096x128.rank, off a + S128x128.size a ≤ S4096x128.size a) : Memref sig .tc .vmem S128x128 .bf16 :=
  xsM.slice (Rect.unit (s := S4096x128) off S128x128.size inb) (fun _ => rfl)
abbrev xtB (off : Fin 2 → ℕ) (inb : ∀ a : Fin S128x4096.rank, off a + S128x128.size a ≤ S128x4096.size a) : Memref sig .tc .vmem S128x128 .bf16 :=
  xtM.slice (Rect.unit (s := S128x4096) off S128x128.size inb) (fun _ => rfl)

/-- A block of a buffer reached through a slice: its elements, by the offset's value. -/
theorem set_xb {off : Fin 2 → ℕ} (t : Dev nD) (h : off = ![128 * t.val, 0]) (inb) :
    (xsB off inb).view.set = rowset t.val := by
  refine (View.set_slice_whole cc0_scratch0 _).trans ?_
  subst h
  ext i
  have h1 : (i 1).val < 128 := (i 1).isLt
  rw [Rect.mem_set_unit, mem_rowset]
  refine (Fin.forall_fin_two (p := fun a : Fin 2 => _ ∧ _)).trans ?_
  simp only [Matrix.cons_val_zero, Matrix.cons_val_one]
  omega
theorem set_xt {off : Fin 2 → ℕ} (t : Dev nD) (h : off = ![0, 128 * t.val]) (inb) :
    (xtB off inb).view.set = colset t.val := by
  refine (View.set_slice_whole cc0_scratch1 _).trans ?_
  subst h
  ext i
  have h1 : (i 0).val < 128 := (i 0).isLt
  rw [Rect.mem_set_unit, mem_colset]
  refine (Fin.forall_fin_two (p := fun a : Fin 2 => _ ∧ _)).trans ?_
  simp only [Matrix.cons_val_zero, Matrix.cons_val_one]
  omega

/-- What a transfer from `c` to `d` lands is column block `c` of what `d` gathers. -/
theorem landed_eq (c d : Dev nD) {so do' : Fin 2 → ℕ} (hs : so = ![128 * d.val, 0]) (hd : do' = ![0, 128 * c.val]) (inb inb')
    (fd : S128x4096.Idx → Elt F .bf16) (i : S128x4096.Idx) (hi : i ∈ colset c.val) :
    (xtB do' inb').view.write (Elt F) fd
      ((xsB so inb).view.read (Elt F) (XB m c)) Finset.univ i = XT m d i := by
  have hc : c.val < 32 := c.isLt
  have hm := hi
  rw [← set_xt c hd inb'] at hm
  obtain ⟨y, -, hy⟩ := Finset.mem_map.mp hm
  have hw : (xtB do' inb').view.write (Elt F) fd
      ((xsB so inb).view.read (Elt F) (XB m c)) Finset.univ i
      = XB m c ((Rect.unit (s := S4096x128) so S128x128.size inb).emb y) := by
    rw [← hy]
    exact (View.write_emb_of_mem _ _ (Finset.mem_univ y)).trans (cast_cast _ _ _)
  have hx (a : Fin 2) : (i a).val = do' a + y a := by
    rw [← hy]
    exact (Rect.emb_apply _ _ _).trans (congrArg _ (Nat.one_mul _))
  have hx' (a : Fin 2) : ((Rect.unit (s := S4096x128) so S128x128.size inb).emb y a).val = so a + y a :=
    (Rect.emb_apply _ _ _).trans (congrArg _ (Nat.one_mul _))
  rw [hw]
  have y0 : (y 0).val < 128 := (y 0).isLt
  have y1 : (y 1).val < 128 := (y 1).isLt
  subst hs hd
  have h0 : (i 0).val = 0 + (y 0).val := hx 0
  have h1 : (i 1).val = 128 * c.val + (y 1).val := hx 1
  have g0 : ((Rect.unit (s := S4096x128) ![128 * d.val, 0] S128x128.size inb).emb y 0).val = 128 * d.val + (y 0).val := hx' 0
  have g1 : ((Rect.unit (s := S4096x128) ![128 * d.val, 0] S128x128.size inb).emb y 1).val = 0 + (y 1).val := hx' 1
  exact (XT_apply m d c i _ (by omega) (g0.trans (by omega)) (g1.trans (by omega))).symm

/-! ## The notices -/

/-- Before the `k`-th notice: the notices still to give, each with the column block it hands over. -/
def SigSt (c : Dev nD) (k : ℕ) : sProp 𝕄 :=
  iprop(records m K ∗ ow c (Osend c 0 + Osig c k)
    ∗ bigSep (rest k) fun j => iprop(dutyTok ER (barCell (tgt c j)) 0 c ∗ ∃ f, xtPts (F := F) c (colset (tgt c j).val) f))

theorem step_sig (c : Dev nD) (j : Fin 31) (n : Dev nD) (hn : n = tgt c j) (s : Sem sig) (hs : s = barS) (k' : ℕ) (hk : k' = 1)
    {α : Type} {Q : α → sProp 𝕄} {k : PUnit → Prog (TpuEff nD τ sig (Elt F) Λ₀ .tc) α} :
    SigSt m K c j.val ⊢ iprop((SigSt m K c (j.val + 1) -∗ run c (k ⟨⟩) Q) -∗ run c (.op (.semSignal (Dev.tc n) s k') k) Q) := by
  subst hn hs hk
  unfold SigSt ow
  rw [rest_eq j, bigSep_ins (notMem_rest j)]
  iintro ⟨#Hrec, ⟨%W, HO⟩, ⟨Ht, Hx⟩, Hrest⟩ Hk
  ihave HB := (records_get m K (tgt c j, none)) $$ Hrec
  icases HB with ⟨#HI, #Hr⟩
  have hO : Osend c 0 + Osig c j.val = Osend c 0 + Osig c (j.val + 1) + tallyAt (barCell (tgt c j)) () 1 := by rw [Osig_step c j, add_assoc]
  iapply (Rounds.wp_signal 𝒱₀ ER (Rd m) (c : Thread nD τ) none (dst := (tgt c j : Thread nD τ)) (κ := K (tgt c j, none)) (r := 0) (d := c)
      (by rw [duties_bar]; exact Finset.mem_erase.mpr ⟨(tgt_ne c j).symm, Finset.mem_univ _⟩) (amount_bar m (tgt c j) c) ()
      (Osend c 0 + Osig c (j.val + 1)) hO) $$ [HO Ht Hx]
  · isplitr; · iexact HI
    isplitl [HO]; · iexact HO
    isplitl [Ht]; · iexact Ht
    isplitl [Hx]; · iapply (Entails.of_eq (payload_bar m (tgt c j) c).symm); iexact Hx
    iexact Hr
  iintro HO
  iapply Hk
  isplitr; · iexact Hrec
  isplitl [HO]; · iexists W; iexact HO
  iexact Hrest

/-! ## The wait for the notices -/

theorem step_bar (c : Dev nD) (s : Sem sig) (hs : s = barS) (k' : ℕ) (hk : k' = 31)
    {α : Type} {Q : α → sProp 𝕄} {k : PUnit → Prog (TpuEff nD τ sig (Elt F) Λ₀ .tc) α} :
    iprop(SigSt m K c 31 ∗ cred (tallyAt (barCell c) () 31) ∗ atPos ER (barCell c) 0 ∅ 0 ∗ levAts L lv)
      ⊢ iprop(((records m K ∗ ow c (Osend c 0) ∗ atPos ER (barCell c) 1 ∅ 0 ∗ bigSep Finset.univ fun j => iprop(∃ f, xtPts (F := F) (tgt c j) (colset c.val) f))
          -∗ run c (k ⟨⟩) Q) -∗ run c (.op (.semWait s k') k) Q) := by
  subst hs hk
  unfold SigSt ow
  rw [Osig_last, add_zero]
  iintro ⟨⟨#Hrec, ⟨%W, HO⟩, -⟩, Hc, Hat, #Hlev⟩ Hk
  ihave HB := (records_get m K (c, none)) $$ Hrec
  icases HB with ⟨#HI, #Hr⟩
  iapply (Rounds.wp_wait_rest_token 𝒱₀ ER (Rd m) (c : Thread nD τ) none (κ := K (c, none))
      (wpE_semWait_eq 𝒱₀ (c : Thread nD τ) none Set.univ) (Set.mem_univ _) () (O := Osend c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitr; · iexact Hrec
  isplitl [HO]; · iexists _; iexact HO
  isplitl [Hat]; · iexact Hat
  iexact Hp

/-! ## The transfers -/

/-- Before the `k`-th transfer: for each one still to start, the row block it sends, the column block it writes and the two
    duties it pays; for each one started, the credit that waits for its end. -/
def SendSt (c : Dev nD) (k : ℕ) : sProp 𝕄 :=
  iprop(records m K ∗ ow c (Osend c k)
    ∗ (bigSep (rest k) fun j => iprop(xbPts c (rowset (tgt c j).val) (XB m c) ∗ (∃ f, xtPts (F := F) (tgt c j) (colset c.val) f)
        ∗ dutyTok ER (sendCell c (tgt c j)) 0 c ∗ dutyTok ER (recvCell (tgt c j) c) 0 (tgt c j)))
    ∗ bigSep (done k) fun j => cred (tallyAt (sendCell c (tgt c j)) () N))

theorem credit_xt {off : Fin 2 → ℕ} (inb) : (xtB off inb).view.dmaCredit = N := rfl
theorem credit_xs {off : Fin 2 → ℕ} (inb) : (xsB off inb).view.dmaCredit = N := rfl

/-- One transfer between two blocks, at its two cells. -/
theorem send_gen (c d : Dev nD) (src dst : Memref sig .tc .vmem S128x128 .bf16) (sS sR : DmaSem sig) {κ₁ κ₂ : ℕ}
    {hsc : dst.view.ref.isScScratch = false} {hsrc : src.view.WordExact} {hdst : dst.view.WordExact}
    {hsem : DmaTarget.Typed .vmem (.dma sR) (.remote (Dev.tc d : Thread nD τ) dst (.dma sS) hsc)}
    {α : Type} {Q : α → sProp 𝕄} {k : PUnit → Prog (TpuEff nD τ sig (Elt F) Λ₀ .tc) α}
    (fs : Buf (Elt F) (src.view.loc (c : Thread nD τ))) (fd : Buf (Elt F) (dst.view.loc (d : Thread nD τ)))
    (hd₁ : c ∈ (Rd (F := F) m).duties ((c : Thread nD τ), .dma sS) 0) (hd₂ : d ∈ (Rd (F := F) m).duties ((d : Thread nD τ), .dma sR) 0)
    (hN : dst.view.amount (.dma sR) = N)
    (hp₁ : ((src.view.loc (c : Thread nD τ) ↦[src.view.set]{fullShare} fs) : sProp 𝕄)
      ⊢ (Rd (F := F) m).payload ((c : Thread nD τ), .dma sS) 0 c)
    (hp₂ : ((dst.view.loc (d : Thread nD τ) ↦[dst.view.set]{fullShare} (dst.view.write (Elt F) fd (src.view.read (Elt F) fs) Finset.univ)) : sProp 𝕄)
      ⊢ (Rd (F := F) m).payload ((d : Thread nD τ), .dma sR) 0 d)
    (O : CellTallies nD τ sig Unit) (W : Waits sig Unit) :
    iprop(cellInv ER (Rd m) κ₁ ((c : Thread nD τ), .dma sS) ∗ cellInv ER (Rd m) κ₂ ((d : Thread nD τ), .dma sR)
        ∗ (src.view.loc (c : Thread nD τ) ↦[src.view.set]{fullShare} fs) ∗ (dst.view.loc (d : Thread nD τ) ↦[dst.view.set]{fullShare} fd)
        ∗ owes (c : Thread nD τ) (O + tallyAt ((d : Thread nD τ), .dma sR) () N) W
        ∗ dutyTok ER ((c : Thread nD τ), .dma sS) 0 c ∗ reached ER ((c : Thread nD τ), .dma sS) 0
        ∗ dutyTok ER ((d : Thread nD τ), .dma sR) 0 d ∗ reached ER ((d : Thread nD τ), .dma sR) 0)
      ⊢ iprop(((cred (tallyAt ((c : Thread nD τ), .dma sS) () N) ∗ owes (c : Thread nD τ) O W) -∗ run c (k ⟨⟩) Q)
          -∗ run c (.op (.enqueueDma src (.remote (Dev.tc d : Thread nD τ) dst (.dma sS) hsc) (.dma sR) hsrc hdst hsem) k) Q) :=
  Rounds.wp_send_pointsTo 𝒱₀ ER (Rd m) (c : Thread nD τ) none (c' := (d : Thread nD τ)) (src := src) (dst := dst)
    (hd₁ := hd₁) (hd₂ := hd₂) () () N hN (amount_dma m c sS c) (amount_dma m d sR d) O rfl hp₁ hp₂

/-- One transfer, at its two cells. -/
theorem send_rule (c d : Dev nD) (hcd : d ≠ c) {κ₁ κ₂ : ℕ} {so do' : Fin 2 → ℕ} (hs : so = ![128 * d.val, 0]) (hd : do' = ![0, 128 * c.val]) (inb inb')
    {hsc : (xtB do' inb').view.ref.isScScratch = false}
    {hsrc : (xsB so inb).view.WordExact}
    {hdst : (xtB do' inb').view.WordExact}
    {hsem : DmaTarget.Typed .vmem (.dma (recvS c)) (.remote (Dev.tc d : Thread nD τ) (xtB do' inb') (.dma (sendS d)) hsc)}
    {α : Type} {Q : α → sProp 𝕄} {k : PUnit → Prog (TpuEff nD τ sig (Elt F) Λ₀ .tc) α} (fd : S128x4096.Idx → Elt F .bf16)
    (O : CellTallies nD τ sig Unit) (W : Waits sig Unit) :
    iprop(cellInv ER (Rd m) κ₁ (sendCell c d) ∗ cellInv ER (Rd m) κ₂ (recvCell d c)
        ∗ xbPts c (rowset d.val) (XB m c) ∗ xtPts d (colset c.val) fd
        ∗ owes (c : Thread nD τ) (O + tallyAt (recvCell d c) () N) W
        ∗ dutyTok ER (sendCell c d) 0 c ∗ reached ER (sendCell c d) 0
        ∗ dutyTok ER (recvCell d c) 0 d ∗ reached ER (recvCell d c) 0)
      ⊢ iprop(((cred (tallyAt (sendCell c d) () N) ∗ owes (c : Thread nD τ) O W) -∗ run c (k ⟨⟩) Q)
          -∗ run c (.op (.enqueueDma (xsB so inb)
              (.remote (Dev.tc d : Thread nD τ) (xtB do' inb') (.dma (sendS d)) hsc)
              (.dma (recvS c)) hsrc hdst hsem) k) Q) := by
  unfold xbPts xtPts
  rw [← set_xb d hs inb, ← set_xt c hd inb']
  have hd₁ : c ∈ (Rd (F := F) m).duties (sendCell c d) 0 := by rw [duties_send m c hcd]; exact Finset.mem_singleton_self _
  have hd₂ : d ∈ (Rd (F := F) m).duties (recvCell d c) 0 := by rw [duties_recv m d hcd.symm]; exact Finset.mem_singleton_self _
  have hN := credit_xt inb'
  have hp₁ : (((xsB so inb).view.loc (c : Thread nD τ)
      ↦[(xsB so inb).view.set]{fullShare} (XB m c)) : sProp 𝕄) ⊢ (Rd (F := F) m).payload (sendCell c d) 0 c := by
    rw [payload_send, set_xb d hs inb]; exact BI.Entails.refl _
  have hp₂ : (((xtB do' inb').view.loc (d : Thread nD τ)
      ↦[(xtB do' inb').view.set]{fullShare}
        ((xtB do' inb').view.write (Elt F) fd
          ((xsB so inb).view.read (Elt F) (XB m c)) Finset.univ)) : sProp 𝕄)
      ⊢ (Rd (F := F) m).payload (recvCell d c) 0 d := by
    rw [payload_recv, set_xt c hd inb']
    exact Entails.of_eq (pointsTo_congr fun i hi => landed_eq m c d hs hd inb inb' fd i hi)
  exact send_gen m c d (xsB so inb) (xtB do' inb') (sendS d) (recvS c) (XB m c) fd hd₁ hd₂ hN hp₁ hp₂ O W

theorem step_send (c : Dev nD) (j : Fin 31) (n : Dev nD) (hn : n = tgt c j) {so do' : Fin 2 → ℕ} (hs : so = ![128 * (tgt c j).val, 0])
    (hd : do' = ![0, 128 * c.val]) (sS sR : DmaSem sig) (hsS : sS = sendS (tgt c j)) (hsR : sR = recvS c) (inb inb')
    {hsc : (xtB do' inb').view.ref.isScScratch = false}
    {hsrc : (xsB so inb).view.WordExact}
    {hdst : (xtB do' inb').view.WordExact}
    {hsem : DmaTarget.Typed .vmem (.dma sR) (.remote (Dev.tc n : Thread nD τ) (xtB do' inb') (.dma sS) hsc)}
    {α : Type} {Q : α → sProp 𝕄} {k : PUnit → Prog (TpuEff nD τ sig (Elt F) Λ₀ .tc) α} :
    SendSt m K c j.val ⊢ iprop((SendSt m K c (j.val + 1) -∗ run c (k ⟨⟩) Q)
      -∗ run c (.op (.enqueueDma (xsB so inb)
              (.remote (Dev.tc n : Thread nD τ) (xtB do' inb') (.dma sS) hsc)
              (.dma sR) hsrc hdst hsem) k) Q) := by
  subst hn hsS hsR
  unfold SendSt ow
  rw [rest_eq j, bigSep_ins (notMem_rest j), done_eq j, bigSep_ins (notMem_done j), Osend_step c j]
  iintro ⟨#Hrec, ⟨%W, HO⟩, ⟨⟨Hxb, ⟨%fd, Hxt⟩, Ht₁, Ht₂⟩, Hrest⟩, Hdone⟩ Hk
  ihave HB := (records_get m K (c, some (false, tgt c j))) $$ Hrec
  icases HB with ⟨#HI₁, #Hr₁⟩
  ihave HB := (records_get m K (tgt c j, some (true, c))) $$ Hrec
  icases HB with ⟨#HI₂, #Hr₂⟩
  iapply (send_rule m c (tgt c j) (tgt_ne c j) (κ₁ := K (c, some (false, tgt c j))) (κ₂ := K (tgt c j, some (true, c))) hs hd inb inb' fd
      (Osend c (j.val + 1)) W) $$ [HO Hxb Hxt Ht₁ Ht₂]
  · isplitr; · iexact HI₁
    isplitr; · iexact HI₂
    isplitl [Hxb]; · iexact Hxb
    isplitl [Hxt]; · iexact Hxt
    isplitl [HO]; · iexact HO
    isplitl [Ht₁]; · iexact Ht₁
    isplitr; · iexact Hr₁
    isplitl [Ht₂]; · iexact Ht₂
    iexact Hr₂
  iintro ⟨Hc, HO⟩
  iapply Hk
  isplitr; · iexact Hrec
  isplitl [HO]; · iexists W; iexact HO
  isplitl [Hrest]; · iexact Hrest
  isplitl [Hc]; · iexact Hc
  iexact Hdone

/-! ## The waits for the landings -/

/-- Column block `s` of device `c`'s gathering buffer when the first `n` have been waited for: its own is there from the
    start, a peer's once waited for. -/
def recvIt (c : Dev nD) (n : ℕ) (s : Dev nD) : sProp 𝕄 :=
  if s = c then iprop(atPos ER (recvCell c s) 0 ∅ 0 ∗ xtPts c (colset s.val) (XT m c))
  else if s.val < n then iprop(atPos ER (recvCell c s) 1 ∅ 0 ∗ xtPts c (colset s.val) (XT m c))
  else iprop(atPos ER (recvCell c s) 0 ∅ 0 ∗ cred (tallyAt (recvCell c s) () N))

def RecvSt (c : Dev nD) (n : ℕ) : sProp 𝕄 := iprop(records m K ∗ ow c 0 ∗ bigSep Finset.univ (recvIt m c n))

theorem recvIt_own (c : Dev nD) (n : ℕ) : recvIt m c n c = iprop(atPos ER (recvCell c c) 0 ∅ 0 ∗ xtPts c (colset c.val) (XT m c)) := if_pos rfl
theorem recvIt_lt {c s : Dev nD} {n : ℕ} (h : s ≠ c) (hn : s.val < n) :
    recvIt m c n s = iprop(atPos ER (recvCell c s) 1 ∅ 0 ∗ xtPts c (colset s.val) (XT m c)) := by unfold recvIt; rw [if_neg h, if_pos hn]
theorem recvIt_ge {c s : Dev nD} {n : ℕ} (h : s ≠ c) (hn : ¬ s.val < n) :
    recvIt m c n s = iprop(atPos ER (recvCell c s) 0 ∅ 0 ∗ cred (tallyAt (recvCell c s) () N)) := by unfold recvIt; rw [if_neg h, if_neg hn]
theorem recvIt_other {c s : Dev nD} {n : ℕ} (h : s.val ≠ n) : recvIt m c (n + 1) s = recvIt m c n s := by
  unfold recvIt
  by_cases hn : s.val < n
  · rw [if_pos hn, if_pos (Nat.lt_succ_of_lt hn)]
  · rw [if_neg hn, if_neg fun h' => (Nat.lt_succ_iff_lt_or_eq.mp h').elim hn h]

theorem step_recv_skip (c s : Dev nD) (h : s = c) : RecvSt m K c s.val = RecvSt m K c (s.val + 1) := by
  unfold RecvSt
  rw [show recvIt m c s.val = recvIt m c (s.val + 1) from funext fun d => by
    by_cases hd : d.val = s.val
    · have : d = c := (Fin.ext hd).trans h
      rw [this, recvIt_own, recvIt_own]
    · exact (recvIt_other m hd).symm]

theorem step_recv (c s : Dev nD) (h : s ≠ c) (sR : DmaSem sig) (hsR : sR = recvS s)
    {s' : Shape} {e' : EltTy} {sp' : Space} {src : Memref sig .tc sp' s' e'} {hsrc : src.view.WordExact} {off : Fin 2 → ℕ} (inb)
    {hdst : (xtB off inb).view.WordExact}
    {α : Type} {Q : α → sProp 𝕄} {k : PUnit → Prog (TpuEff nD τ sig (Elt F) Λ₀ .tc) α} :
    RecvSt m K c s.val ⊢ iprop((RecvSt m K c (s.val + 1) -∗ run c (k ⟨⟩) Q)
      -∗ run c (.op (.waitDma2 sR src (xtB off inb) hsrc hdst) k) Q) := by
  subst hsR
  unfold RecvSt ow
  rw [bigSep_univ_at _ s, bigSep_univ_at _ s, recvIt_ge m h (Nat.lt_irrefl _), recvIt_lt m h (Nat.lt_succ_self _),
    bigSep_congr (Φ := recvIt m c (s.val + 1)) (Ψ := recvIt m c s.val) fun d hd => recvIt_other m fun e => (Finset.mem_erase.mp hd).1 (Fin.ext e)]
  iintro ⟨#Hrec, ⟨%W, HO⟩, ⟨Hat, Hc⟩, Hrest⟩ Hk
  ihave HB := (records_get m K (c, some (true, s))) $$ Hrec
  icases HB with ⟨#HI, #Hr⟩
  iapply (Rounds.wp_wait_rest_token 𝒱₀ ER (Rd m) (c : Thread nD τ) none (κ := K (c, some (true, s)))
      (wpE_waitDma2_eq 𝒱₀ (c : Thread nD τ) none Set.univ) (Set.mem_univ _) () (O := 0) (W := W) (R := 0) (m := 0) (T := ∅)
      (by rw [Nat.zero_add]; exact (expect_recv m c h).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c h)) $$ Hpay
  iapply Hk
  isplitr; · iexact Hrec
  isplitl [HO]; · iexists _; iexact HO
  isplitl [Hat Hp]
  · isplitl [Hat]; · iexact Hat
    iexact Hp
  iexact Hrest

/-! ## The waits for the sends -/

/-- Before the `k`-th wait for a send: for each still to wait for, its credit and position; for each waited for, the row
    block back. -/
def DrainSt (c : Dev nD) (k : ℕ) : sProp 𝕄 :=
  iprop(records m K ∗ ow c 0
    ∗ (bigSep (rest k) fun j => iprop(cred (tallyAt (sendCell c (tgt c j)) () N) ∗ atPos ER (sendCell c (tgt c j)) 0 ∅ 0))
    ∗ bigSep (done k) fun j => iprop(atPos ER (sendCell c (tgt c j)) 1 ∅ 0 ∗ xbPts c (rowset (tgt c j).val) (XB m c)))

theorem step_drain (c : Dev nD) (j : Fin 31) (sS : DmaSem sig) (hsS : sS = sendS (tgt c j))
    {s' : Shape} {e' : EltTy} {sp' : Space} {src : Memref sig .tc sp' s' e'} {hsrc : src.view.WordExact} {off : Fin 2 → ℕ} (inb)
    {hdst : (xsB off inb).view.WordExact}
    {α : Type} {Q : α → sProp 𝕄} {k : PUnit → Prog (TpuEff nD τ sig (Elt F) Λ₀ .tc) α} :
    DrainSt m K c j.val ⊢ iprop((DrainSt m K c (j.val + 1) -∗ run c (k ⟨⟩) Q)
      -∗ run c (.op (.waitDma2 sS src (xsB off inb) hsrc hdst) k) Q) := by
  subst hsS
  unfold DrainSt ow
  rw [rest_eq j, bigSep_ins (notMem_rest j), done_eq j, bigSep_ins (notMem_done j)]
  iintro ⟨#Hrec, ⟨%W, HO⟩, ⟨⟨Hc, Hat⟩, Hrest⟩, Hdone⟩ Hk
  ihave HB := (records_get m K (c, some (false, tgt c j))) $$ Hrec
  icases HB with ⟨#HI, #Hr⟩
  iapply (Rounds.wp_wait_rest_token 𝒱₀ ER (Rd m) (c : Thread nD τ) none (κ := K (c, some (false, tgt c j)))
      (wpE_waitDma2_eq 𝒱₀ (c : Thread nD τ) none Set.univ) (Set.mem_univ _) () (O := 0) (W := W) (R := 0) (m := 0) (T := ∅)
      (by rw [Nat.zero_add]; exact (expect_send m c (tgt_ne c j)).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c (tgt_ne c j))) $$ Hpay
  iapply Hk
  isplitr; · iexact Hrec
  isplitl [HO]; · iexists _; iexact HO
  isplitl [Hrest]; · iexact Hrest
  isplitl [Hat Hp]
  · isplitl [Hat]; · iexact Hat
    iexact Hp
  iexact Hdone

end Cert.KernelIdealProof
-- ==== Proof.Mem.lean ====
/-
# Programs in sequence, buffers cut in blocks, whole loads and stores
-/
module

public import proofs.«01_k».proof.Proof.Steps
public import Idealize.ShloMosaic.Lib.Pipeline.Value

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Bool × Dev nD) → ℕ)

/-! ## Programs in sequence -/

theorem run_seq {c : Dev nD} {α β : Type} {p : Prog (TpuEff nD τ sig (Elt F) Λ₀ .tc) α} {k : α → Prog (TpuEff nD τ sig (Elt F) Λ₀ .tc) β}
    {P : sProp 𝕄} {R : α → sProp 𝕄} {Q : β → sProp 𝕄} (h₁ : P ⊢ run c p R) (h₂ : ∀ a, R a ⊢ run c (k a) Q) : P ⊢ run c (p >>= k) Q := by
  unfold run
  rw [wp_bind]
  exact h₁.trans (wp_mono frame (wpE (defs₀ (F := F)) 𝒱₀ (c : Thread nD τ) none) Set.univ h₂)

theorem run_frame {c : Dev nD} {α : Type} {p : Prog (TpuEff nD τ sig (Elt F) Λ₀ .tc) α}
    {P A : sProp 𝕄} {R : α → sProp 𝕄} (h : P ⊢ run c p R) : iprop(P ∗ A) ⊢ run c p (fun a => iprop(R a ∗ A)) :=
  (sep_mono_left h).trans (wp_frame_r frame (wpE (defs₀ (F := F)) 𝒱₀ (c : Thread nD τ) none) Set.univ)

/-- A program at the head of another, from part of what is held. -/
theorem run_bind {c : Dev nD} {α β : Type} {p : Prog (TpuEff nD τ sig (Elt F) Λ₀ .tc) α} {k : α → Prog (TpuEff nD τ sig (Elt F) Λ₀ .tc) β}
    {P : sProp 𝕄} {R : sProp 𝕄} {Q : β → sProp 𝕄} (h : P ⊢ run c p (fun _ => R)) :
    P ⊢ iprop((∀ a, R -∗ run c (k a) Q) -∗ run c (p >>= k) Q) := by
  unfold run at *
  rw [wp_bind]
  iintro HP Hk
  iapply (wp_wand_r frame (wpE (defs₀ (F := F)) 𝒱₀ (c : Thread nD τ) none) Set.univ) $$ [HP Hk]
  isplitl [HP]; · iapply h; iexact HP
  iintro %a HR
  iapply Hk
  iexact HR

theorem run_bind' {c : Dev nD} {α β : Type} {p : Prog (TpuEff nD τ sig (Elt F) Λ₀ .tc) α} {k : α → Prog (TpuEff nD τ sig (Elt F) Λ₀ .tc) β}
    {P : sProp 𝕄} {R : α → sProp 𝕄} {Q : β → sProp 𝕄} (h : P ⊢ run c p R) :
    P ⊢ iprop((∀ a, R a -∗ run c (k a) Q) -∗ run c (p >>= k) Q) := by
  unfold run at *
  rw [wp_bind]
  iintro HP Hk
  iapply (wp_wand_r frame (wpE (defs₀ (F := F)) 𝒱₀ (c : Thread nD τ) none) Set.univ) $$ [HP Hk]
  isplitl [HP]; · iapply h; iexact HP
  iintro %a HR
  iapply Hk
  iexact HR

/-! ## Buffers cut in blocks -/

omit [FloatOps F] in
theorem bigSep_dev (c : Dev nD) (Φ : Dev nD → sProp 𝕄) :
    bigSep Finset.univ Φ = iprop(Φ c ∗ bigSep Finset.univ fun j => Φ (tgt c j)) := by
  rw [bigSep_univ_at _ c, erase_eq_map, bigSep_map]
  rfl

theorem rowset_disj {t t' : ℕ} (h : t ≠ t') : Disjoint (rowset t) (rowset t') :=
  Finset.disjoint_left.mpr fun i hi hi' => h ((mem_rowset.mp hi).symm.trans (mem_rowset.mp hi'))
theorem colset_disj {t t' : ℕ} (h : t ≠ t') : Disjoint (colset t) (colset t') :=
  Finset.disjoint_left.mpr fun i hi hi' => h ((mem_colset.mp hi).symm.trans (mem_colset.mp hi'))

theorem rows_union : (Finset.univ : Finset (Dev nD)).biUnion (fun d => rowset d.val) = Finset.univ :=
  Finset.eq_univ_iff_forall.mpr fun i => Finset.mem_biUnion.mpr
    ⟨⟨(i 0).val / 128, by have : (i 0).val < 4096 := (i 0).isLt; show _ < 32; omega⟩, Finset.mem_univ _, mem_rowset.mpr rfl⟩
theorem cols_union : (Finset.univ : Finset (Dev nD)).biUnion (fun d => colset d.val) = Finset.univ :=
  Finset.eq_univ_iff_forall.mpr fun i => Finset.mem_biUnion.mpr
    ⟨⟨(i 1).val / 128, by have : (i 1).val < 4096 := (i 1).isLt; show _ < 32; omega⟩, Finset.mem_univ _, mem_colset.mpr rfl⟩

omit [FloatOps F] in
theorem xb_blocks (c : Dev nD) (f) : xbPts (F := F) c Finset.univ f = bigSep Finset.univ fun d : Dev nD => xbPts c (rowset d.val) f := by
  unfold xbPts
  rw [← rows_union]
  exact pointsTo_biUnion _ _ fun t _ t' _ h => rowset_disj fun e => h (Fin.ext e)
omit [FloatOps F] in
theorem xt_blocks (c : Dev nD) (f) : xtPts (F := F) c Finset.univ f = bigSep Finset.univ fun d : Dev nD => xtPts c (colset d.val) f := by
  unfold xtPts
  rw [← cols_union]
  exact pointsTo_biUnion _ _ fun t _ t' _ h => colset_disj fun e => h (Fin.ext e)

/-! ## Whole loads and stores -/

omit [FloatOps F] in
theorem hz2 : (![0, 0] : Fin 2 → ℕ) = fun _ => 0 := funext fun a => by fin_cases a <;> rfl

omit [FloatOps F] in
/-- A memref reached through a rectangle over all of it. -/
theorem emb_all {s : Shape} {e : EltTy} (a : Memref sig .tc .vmem s e) {off : Fin s.rank → ℕ} (h0 : off = fun _ => 0) (inb) (x : s.Idx) :
    (a.access (Rect.unit (s := s) off s.size inb)).emb x = a.view.emb x := by
  subst h0
  exact congrArg a.view.emb (Rect.emb_whole_apply s x)

theorem load_owns {c : Dev nD} {s : Shape} {e : EltTy} (a : Memref sig .tc .vmem s e) (X : s.Idx → Elt F e)
    {off : Fin s.rank → ℕ} (h0 : off = fun _ => 0) {inb} {hl : a.view.LoadsAt (Rect.unit (s := s) off s.size inb).toLoadRect}
    {α : Type} {Q : α → sProp 𝕄} {k : (s.Idx → Elt F e) → Prog (TpuEff nD τ sig (Elt F) Λ₀ .tc) α} :
    (owns (c : Thread nD τ) a fullShare X : sProp 𝕄) ⊢ iprop((owns (c : Thread nD τ) a fullShare X -∗ run c (k X) Q)
      -∗ run c (.op (.load a (Rect.unit (s := s) off s.size inb).toLoadRect hl) k) Q) := by
  unfold owns
  iintro ⟨%f, %hf, H⟩ Hk
  have hr : (a.access (Rect.unit (s := s) off s.size inb)).read (Elt F) f = X := by
    rw [← hf]
    funext x
    rw [View.read_apply, View.read_apply, emb_all a h0 inb x]
  iapply (wp_load_rect 𝒱₀ (c : Thread nD τ) none Set.univ (m := a) (r := Rect.unit (s := s) off s.size inb) (f := f) (S := a.view.set)
    (View.set_slice_subset a.view _)) $$ H
  iintro H
  rw [hr]
  iapply Hk
  iexists f
  isplitr; · ipureintro; exact hf
  iexact H

theorem store_owns {c : Dev nD} {s : Shape} {e : EltTy} (a : Memref sig .tc .vmem s e) (X w : s.Idx → Elt F e)
    {off : Fin s.rank → ℕ} (h0 : off = fun _ => 0) {inb} {hx : (a.access (Rect.unit (s := s) off s.size inb)).Stores Finset.univ} {hm}
    {α : Type} {Q : α → sProp 𝕄} {k : PUnit → Prog (TpuEff nD τ sig (Elt F) Λ₀ .tc) α} :
    (owns (c : Thread nD τ) a fullShare X : sProp 𝕄) ⊢ iprop((owns (c : Thread nD τ) a fullShare w -∗ run c (k ⟨⟩) Q)
      -∗ run c (.op (.store a (Rect.unit (s := s) off s.size inb) w Finset.univ hx hm) k) Q) := by
  unfold owns
  iintro ⟨%f, %hf, H⟩ Hk
  have hr : a.view.read (Elt F) ((a.access (Rect.unit (s := s) off s.size inb)).write (Elt F) f w Finset.univ) = w := by
    funext x
    rw [View.read_apply, ← emb_all a h0 inb x]
    exact (congrArg _ (View.write_emb_of_mem _ _ (Finset.mem_univ x))).trans (cast_cast _ _ _)
  iapply (wp_store 𝒱₀ (c : Thread nD τ) none Set.univ (m := a) (r := Rect.unit (s := s) off s.size inb)
    (Mk := Finset.univ) (f := f) (S := a.view.set) (View.set_slice_subset a.view _)) $$ H
  iintro H
  iapply Hk
  iexists _
  isplitr; · ipureintro; exact hr
  iexact H

theorem xb_owns (c : Dev nD) (X : S4096x128.Idx → Elt F .bf16) :
    (owns (c : Thread nD τ) xsM fullShare X : sProp 𝕄) ⊣⊢ xbPts c Finset.univ X := by
  unfold owns xbPts
  simp only [Memref.view_whole, View.read_whole, View.set_whole]
  constructor
  · iintro ⟨%f, %hf, H⟩; subst hf; iexact H
  · iintro H; iexists X; isplitr; · ipureintro; rfl
    iexact H

/-! ## The device's own column block -/

theorem step_own (c : Dev nD) (f : S128x4096.Idx → Elt F .bf16) {o₁ : Fin 2 → ℕ} (ho₁ : o₁ = ![128 * c.val, 0]) {o₂ : Fin 2 → ℕ} (ho₂ : o₂ = ![0, 128 * c.val])
    {inb₁ inb₂} {hl₁ : (xsM).view.LoadsAt (Rect.unit (s := S4096x128) o₁ S128x128.size inb₁).toLoadRect}
    {hl₂ : (xtM).view.LoadsAt (Rect.unit (s := S128x4096) o₂ S128x128.size inb₂).toLoadRect}
    {hx : (xtM.access (Rect.unit (s := S128x4096) o₂ S128x128.size inb₂)).Stores Finset.univ} {hm}
    {α : Type} {Q : α → sProp 𝕄} {k : PUnit → Prog (TpuEff nD τ sig (Elt F) Λ₀ .tc) α} :
    iprop(xbPts c Finset.univ (XB m c) ∗ xtPts c (colset c.val) f)
      ⊢ iprop((iprop(xbPts c Finset.univ (XB m c) ∗ xtPts c (colset c.val) (XT m c)) -∗ run c (k ⟨⟩) Q)
        -∗ run c (.op (.load xsM (Rect.unit (s := S4096x128) o₁ S128x128.size inb₁).toLoadRect hl₁) fun v =>
            .op (.load xtM (Rect.unit (s := S128x4096) o₂ S128x128.size inb₂).toLoadRect hl₂) fun _ =>
            .op (.store xtM (Rect.unit (s := S128x4096) o₂ S128x128.size inb₂) (k0_pay2 v) Finset.univ hx hm) k) Q) := by
  have hset : (xtM.access (Rect.unit (s := S128x4096) o₂ S128x128.size inb₂)).set = colset c.val := set_xt c ho₂ inb₂
  have hw : ∀ i ∈ colset c.val, (xtM.access (Rect.unit (s := S128x4096) o₂ S128x128.size inb₂)).write (Elt F) f
      (k0_pay2 ((xsM.access (Rect.unit (s := S4096x128) o₁ S128x128.size inb₁)).read (Elt F) (XB m c))) Finset.univ i = XT m c i := fun i hi => by
    unfold k0_pay2
    rw [shapeCast_self]
    exact landed_eq m c c ho₁ ho₂ inb₁ inb₂ f i hi
  unfold xbPts xtPts
  iintro ⟨Hb, Ht⟩ Hk
  iapply (wp_load_rect 𝒱₀ (c : Thread nD τ) none Set.univ (m := xsM) (r := Rect.unit (s := S4096x128) o₁ S128x128.size inb₁) (Finset.subset_univ _)) $$ Hb
  iintro Hb
  iapply (wp_load_rect 𝒱₀ (c : Thread nD τ) none Set.univ (m := xtM) (r := Rect.unit (s := S128x4096) o₂ S128x128.size inb₂)
    (S := colset c.val) (subset_of_eq hset)) $$ Ht
  iintro Ht
  iapply (wp_store 𝒱₀ (c : Thread nD τ) none Set.univ (m := xtM) (r := Rect.unit (s := S128x4096) o₂ S128x128.size inb₂)
    (Mk := Finset.univ) (S := colset c.val) (subset_of_eq hset)) $$ Ht
  iintro Ht
  iapply Hk
  isplitl [Hb]; · iexact Hb
  iapply (Entails.of_eq (pointsTo_congr hw)); iexact Ht

end Cert.KernelIdealProof
-- ==== Proof.Start.lean ====
/-
# The start of the exchange

What the first grid point does before anything else: the 31 notices, the wait for the 31 notices, the block of `x` copied
into the sending buffer, the device's own part copied into the gathering buffer, the 31 transfers.
-/
module

public import proofs.«01_k».proof.Proof.Mem

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Bool × Dev nD) → ℕ)

/-! ## One notice, one transfer, as printed -/

theorem dev_eq (c : Dev nD) (k : ℕ) (hk : k < 31) {n : ℕ} (hn : n < nD) (e : n = (c.val + (k + 1)) % 32) : (⟨n, hn⟩ : Dev nD) = tgt c ⟨k, hk⟩ := Fin.ext e

theorem ntc (c : Dev nD) (k : ℕ) (hk : k < 31) {n : ℕ} (hn : n < nD) (e : n = (c.val + (k + 1)) % 32)
    {α : Type} {Q : α → sProp 𝕄} {p : PUnit → Prog (TpuEff nD τ sig (Elt F) Λ₀ .tc) α} :
    SigSt m K c k ⊢ iprop((SigSt m K c (k + 1) -∗ run c (p ⟨⟩) Q) -∗ run c (.op (.semSignal (Dev.tc (⟨n, hn⟩ : Dev nD)) barS (1#32).toNat) p) Q) :=
  step_sig m K c ⟨k, hk⟩ ⟨n, hn⟩ (dev_eq c k hk hn e) barS rfl _ rfl

theorem snd (c : Dev nD) (k : ℕ) (hk : k < 31) {n : ℕ} (hn : n < nD) (e : n = (c.val + (k + 1)) % 32) (inb₁ inb₂ inb₃ inb₄)
    {hsc : (xtB (k0_off5 c) inb₁).view.ref.isScScratch = false}
    {hsrc : (xsB (k0_off6 c (BitVec.ofNat 32 (1 + k))) inb₂).view.WordExact}
    {hdst : (xtB (k0_off5 c) inb₁).view.WordExact} {hsem}
    {α : Type} {Q : α → sProp 𝕄} {p : PUnit → Prog (TpuEff nD τ sig (Elt F) Λ₀ .tc) α} :
    SendSt m K c k ⊢ iprop((SendSt m K c (k + 1) -∗ run c (p ⟨⟩) Q)
      -∗ run c (.op (.enqueueDma (xsB (k0_off6 c (BitVec.ofNat 32 (1 + k))) inb₂)
              (.remote (Dev.tc (⟨n, hn⟩ : Dev nD) : Thread nD τ) (xtB (k0_off5 c) inb₁)
                (.dma ((cc0_scratch3.slice (Rect.unit (s := S32) (k0_off3 c (BitVec.ofNat 32 (1 + k))) S1.size inb₃)).squeeze S_ squeezes_S1_S_).sem) hsc)
              (.dma ((cc0_scratch4.slice (Rect.unit (s := S32) (k0_off4 c) S1.size inb₄)).squeeze S_ squeezes_S1_S_).sem) hsrc hdst hsem) p) Q) :=
  step_send m K c ⟨k, hk⟩ ⟨n, hn⟩ (dev_eq c k hk hn e) ((k0_off6_eq c ⟨k, hk⟩).trans (by simp only [tgt_val])) (k0_off5_eq c) _ _
    (sem_send_eq c _ inb₃ (tgt c ⟨k, hk⟩) ((k0_off3_eq c ⟨k, hk⟩).trans (by simp only [tgt_val]))) (sem_recv_eq _ inb₄ c (k0_off4_eq c)) inb₂ inb₁

variable (i : grid0.Coords) (a2 : Memref sig .tc .vmem S4096x128 .bf16) (h2 : a2.IsWhole) (a3 : Memref sig .tc .vmem S1024x1024 .bf16)
  (h3 : a3.IsWhole) (a4 : Memref sig .tc .vmem S128x1024 .f32) (h4 : a4.IsWhole) (c : Dev nD) (v2 : BitVec 32) (h1 : k0_cond1 i = 1#1)

/-! ## The printed parts -/

theorem run_part1 : SigSt m K c 0 ⊢ run c (k0_part1 (F := F) i a2 h2 a3 h3 a4 h4 xsM (Memref.isWhole_whole _) xtM (Memref.isWhole_whole _) acM (Memref.isWhole_whole _) cc0_scratch3 cc0_scratch4 c v2 h1) (fun v => iprop(⌜v = (SemArray.scalar (sig.barrier 0 rfl))⌝ ∗ SigSt m K c 5)) := by
  rw [k0_part1_eq_skeleton]; unfold k0_part1_skel
  simp only [semSignalWord, semWaitWord, Prog.lift, Prog.bind_op, Prog.bind_ret, Prog.pure_eq_ret]
  iintro HS
  iapply (ntc m K c 0 (by decide) _ (k0_dev1_eq c)) $$ HS; iintro HS
  iapply (ntc m K c 1 (by decide) _ (k0_dev2_eq c)) $$ HS; iintro HS
  iapply (ntc m K c 2 (by decide) _ (k0_dev3_eq c)) $$ HS; iintro HS
  iapply (ntc m K c 3 (by decide) _ (k0_dev4_eq c)) $$ HS; iintro HS
  iapply (ntc m K c 4 (by decide) _ (k0_dev5_eq c)) $$ HS; iintro HS
  unfold run; rw [wp_ret]; imodintro
  isplitr; · ipureintro; rfl
  iexact HS

theorem run_part2 : SigSt m K c 5 ⊢ run c (k0_part2 (F := F) i a2 h2 a3 h3 a4 h4 xsM (Memref.isWhole_whole _) xtM (Memref.isWhole_whole _) acM (Memref.isWhole_whole _) cc0_scratch3 cc0_scratch4 c v2 h1 (SemArray.scalar (sig.barrier 0 rfl))) (fun _ => SigSt m K c 11) := by
  rw [k0_part2_eq_skeleton]; unfold k0_part2_skel
  simp only [semSignalWord, semWaitWord, Prog.lift, Prog.bind_op, Prog.bind_ret, Prog.pure_eq_ret]
  iintro HS
  iapply (ntc m K c 5 (by decide) _ (k0_dev6_eq c)) $$ HS; iintro HS
  iapply (ntc m K c 6 (by decide) _ (k0_dev7_eq c)) $$ HS; iintro HS
  iapply (ntc m K c 7 (by decide) _ (k0_dev8_eq c)) $$ HS; iintro HS
  iapply (ntc m K c 8 (by decide) _ (k0_dev9_eq c)) $$ HS; iintro HS
  iapply (ntc m K c 9 (by decide) _ (k0_dev10_eq c)) $$ HS; iintro HS
  iapply (ntc m K c 10 (by decide) _ (k0_dev11_eq c)) $$ HS; iintro HS
  unfold run; rw [wp_ret]; imodintro; iexact HS

theorem run_part3 : SigSt m K c 11 ⊢ run c (k0_part3 (F := F) i a2 h2 a3 h3 a4 h4 xsM (Memref.isWhole_whole _) xtM (Memref.isWhole_whole _) acM (Memref.isWhole_whole _) cc0_scratch3 cc0_scratch4 c v2 h1 (SemArray.scalar (sig.barrier 0 rfl))) (fun _ => SigSt m K c 17) := by
  rw [k0_part3_eq_skeleton]; unfold k0_part3_skel
  simp only [semSignalWord, semWaitWord, Prog.lift, Prog.bind_op, Prog.bind_ret, Prog.pure_eq_ret]
  iintro HS
  iapply (ntc m K c 11 (by decide) _ (k0_dev12_eq c)) $$ HS; iintro HS
  iapply (ntc m K c 12 (by decide) _ (k0_dev13_eq c)) $$ HS; iintro HS
  iapply (ntc m K c 13 (by decide) _ (k0_dev14_eq c)) $$ HS; iintro HS
  iapply (ntc m K c 14 (by decide) _ (k0_dev15_eq c)) $$ HS; iintro HS
  iapply (ntc m K c 15 (by decide) _ (k0_dev16_eq c)) $$ HS; iintro HS
  iapply (ntc m K c 16 (by decide) _ (k0_dev17_eq c)) $$ HS; iintro HS
  unfold run; rw [wp_ret]; imodintro; iexact HS

theorem run_part4 : SigSt m K c 17 ⊢ run c (k0_part4 (F := F) i a2 h2 a3 h3 a4 h4 xsM (Memref.isWhole_whole _) xtM (Memref.isWhole_whole _) acM (Memref.isWhole_whole _) cc0_scratch3 cc0_scratch4 c v2 h1 (SemArray.scalar (sig.barrier 0 rfl))) (fun _ => SigSt m K c 23) := by
  rw [k0_part4_eq_skeleton]; unfold k0_part4_skel
  simp only [semSignalWord, semWaitWord, Prog.lift, Prog.bind_op, Prog.bind_ret, Prog.pure_eq_ret]
  iintro HS
  iapply (ntc m K c 17 (by decide) _ (k0_dev18_eq c)) $$ HS; iintro HS
  iapply (ntc m K c 18 (by decide) _ (k0_dev19_eq c)) $$ HS; iintro HS
  iapply (ntc m K c 19 (by decide) _ (k0_dev20_eq c)) $$ HS; iintro HS
  iapply (ntc m K c 20 (by decide) _ (k0_dev21_eq c)) $$ HS; iintro HS
  iapply (ntc m K c 21 (by decide) _ (k0_dev22_eq c)) $$ HS; iintro HS
  iapply (ntc m K c 22 (by decide) _ (k0_dev23_eq c)) $$ HS; iintro HS
  unfold run; rw [wp_ret]; imodintro; iexact HS

theorem run_part5 : SigSt m K c 23 ⊢ run c (k0_part5 (F := F) i a2 h2 a3 h3 a4 h4 xsM (Memref.isWhole_whole _) xtM (Memref.isWhole_whole _) acM (Memref.isWhole_whole _) cc0_scratch3 cc0_scratch4 c v2 h1 (SemArray.scalar (sig.barrier 0 rfl))) (fun _ => SigSt m K c 29) := by
  rw [k0_part5_eq_skeleton]; unfold k0_part5_skel
  simp only [semSignalWord, semWaitWord, Prog.lift, Prog.bind_op, Prog.bind_ret, Prog.pure_eq_ret]
  iintro HS
  iapply (ntc m K c 23 (by decide) _ (k0_dev24_eq c)) $$ HS; iintro HS
  iapply (ntc m K c 24 (by decide) _ (k0_dev25_eq c)) $$ HS; iintro HS
  iapply (ntc m K c 25 (by decide) _ (k0_dev26_eq c)) $$ HS; iintro HS
  iapply (ntc m K c 26 (by decide) _ (k0_dev27_eq c)) $$ HS; iintro HS
  iapply (ntc m K c 27 (by decide) _ (k0_dev28_eq c)) $$ HS; iintro HS
  iapply (ntc m K c 28 (by decide) _ (k0_dev29_eq c)) $$ HS; iintro HS
  unfold run; rw [wp_ret]; imodintro; iexact HS

/-- What device `c` holds besides the notices when the exchange starts. -/
def BeginSt (d : S4096x128.Idx → Elt F .bf16) : sProp 𝕄 :=
  iprop(cred (tallyAt (barCell c) () 31) ∗ atPos ER (barCell c) 0 ∅ 0 ∗ levAts L lv
    ∗ owns (c : Thread nD τ) a2 fullShare d ∗ (∃ f, xbPts (F := F) c Finset.univ f) ∗ (∃ f, xtPts (F := F) c (colset c.val) f)
    ∗ (bigSep Finset.univ fun j : Fin 31 => iprop(dutyTok ER (sendCell c (tgt c j)) 0 c ∗ dutyTok ER (recvCell (tgt c j) c) 0 (tgt c j))))

/-- What it holds besides the transfers once it starts them. -/
def SentSt : sProp 𝕄 :=
  iprop(atPos ER (barCell c) 1 ∅ 0 ∗ owns (c : Thread nD τ) a2 fullShare (xst m c) ∗ xbPts c (rowset c.val) (XB m c) ∗ xtPts c (colset c.val) (XT m c))

theorem send_intro :
    iprop((records m K ∗ ow c (Osend c 0)) ∗ (bigSep Finset.univ fun j => iprop(∃ f, xtPts (F := F) (tgt c j) (colset c.val) f))
        ∗ xbPts c Finset.univ (XB m c)
        ∗ (bigSep Finset.univ fun j : Fin 31 => iprop(dutyTok ER (sendCell c (tgt c j)) 0 c ∗ dutyTok ER (recvCell (tgt c j) c) 0 (tgt c j))))
      ⊢ iprop(SendSt m K c 0 ∗ xbPts c (rowset c.val) (XB m c)) := by
  unfold SendSt
  rw [rest_zero, done_zero, xb_blocks, bigSep_dev c, bigSep_sep', bigSep_sep', bigSep_sep', bigSep_sep', bigSep_empty]
  iintro ⟨⟨Hrec, HO⟩, Hp, ⟨Hown, Hb⟩, Ht₁, Ht₂⟩
  isplitr [Hown]
  · isplitl [Hrec]; · iexact Hrec
    isplitl [HO]; · iexact HO
    isplitl [Hp Hb Ht₁ Ht₂]
    · isplitl [Hb]; · iexact Hb
      isplitl [Hp]; · iexact Hp
      isplitl [Ht₁]; · iexact Ht₁
      iexact Ht₂
    iempintro
  iexact Hown

theorem run_part6 :
    iprop(SigSt m K c 29 ∗ BeginSt (F := F) a2 c (xst m c))
      ⊢ run c (k0_part6 (F := F) i a2 h2 a3 h3 a4 h4 xsM (Memref.isWhole_whole _) xtM (Memref.isWhole_whole _) acM (Memref.isWhole_whole _) cc0_scratch3 cc0_scratch4 c v2 h1 (SemArray.scalar (sig.barrier 0 rfl))) (fun _ => iprop(SendSt m K c 1 ∗ SentSt m a2 c)) := by
  rw [k0_part6_eq_skeleton]; unfold k0_part6_skel
  simp only [semSignalWord, semWaitWord, Prog.lift, Prog.bind_op, Prog.bind_ret, Prog.pure_eq_ret]
  unfold BeginSt SentSt
  iintro ⟨HS, Hc, Hat, Hlev, Ha, ⟨%fb, Hb⟩, ⟨%ft, Ht⟩, Htok⟩
  iapply (ntc m K c 29 (by decide) _ (k0_dev30_eq c)) $$ HS; iintro HS
  iapply (ntc m K c 30 (by decide) _ (k0_dev31_eq c)) $$ HS; iintro HS
  iapply (step_bar m K c barS rfl _ rfl) $$ [HS Hc Hat Hlev]
  · isplitl [HS]; · iexact HS
    isplitl [Hc]; · iexact Hc
    isplitl [Hat]; · iexact Hat
    iexact Hlev
  iintro ⟨Hrec, HO, Hat, Hp⟩
  iapply (load_owns a2 (xst m c) hz2) $$ Ha; iintro Ha
  ihave Hb' := (xb_owns c fb).2 $$ Hb
  iapply (load_owns xsM fb hz2) $$ Hb'; iintro Hb'
  iapply (store_owns xsM fb (k0_pay1 (xst m c)) hz2) $$ Hb'; iintro Hb'
  ihave Hb := (show (owns (c : Thread nD τ) xsM fullShare (k0_pay1 (xst m c)) : sProp 𝕄) ⊢ _ from (xb_owns c (XB m c)).1) $$ Hb'
  iapply (step_own m c ft (k0_off1_eq c) (k0_off2_eq c)) $$ [Hb Ht]
  · isplitl [Hb]; · iexact Hb
    iexact Ht
  iintro ⟨Hb, Ht⟩
  ihave HS := (send_intro m K c) $$ [Hrec HO Hp Hb Htok]
  · isplitl [Hrec HO]
    · isplitl [Hrec]; · iexact Hrec
      iexact HO
    isplitl [Hp]; · iexact Hp
    isplitl [Hb]; · iexact Hb
    iexact Htok
  icases HS with ⟨HS, Hown⟩
  iapply (snd m K c 0 (by decide) _ (k0_dev32_eq c) _ _ _ _) $$ HS; iintro HS
  unfold run; rw [wp_ret]; imodintro
  isplitl [HS]; · iexact HS
  isplitl [Hat]; · iexact Hat
  isplitl [Ha]; · iexact Ha
  isplitl [Hown]; · iexact Hown
  iexact Ht

theorem run_part7 (v : BitVec 32) : SendSt m K c 1 ⊢ run c (k0_part7 (F := F) i a2 h2 a3 h3 a4 h4 xsM (Memref.isWhole_whole _) xtM (Memref.isWhole_whole _) acM (Memref.isWhole_whole _) cc0_scratch3 cc0_scratch4 c v2 h1 v) (fun _ => SendSt m K c 3) := by
  rw [k0_part7_eq_skeleton]; unfold k0_part7_skel
  simp only [semSignalWord, semWaitWord, Prog.lift, Prog.bind_op, Prog.bind_ret, Prog.pure_eq_ret]
  iintro HS
  iapply (snd m K c 1 (by decide) _ (k0_dev33_eq c) _ _ _ _) $$ HS; iintro HS
  iapply (snd m K c 2 (by decide) _ (k0_dev34_eq c) _ _ _ _) $$ HS; iintro HS
  unfold run; rw [wp_ret]; imodintro; iexact HS

theorem run_part8 : SendSt m K c 3 ⊢ run c (k0_part8 (F := F) i a2 h2 a3 h3 a4 h4 xsM (Memref.isWhole_whole _) xtM (Memref.isWhole_whole _) acM (Memref.isWhole_whole _) cc0_scratch3 cc0_scratch4 c v2 h1) (fun _ => SendSt m K c 6) := by
  rw [k0_part8_eq_skeleton]; unfold k0_part8_skel
  simp only [semSignalWord, semWaitWord, Prog.lift, Prog.bind_op, Prog.bind_ret, Prog.pure_eq_ret]
  iintro HS
  iapply (snd m K c 3 (by decide) _ (k0_dev35_eq c) _ _ _ _) $$ HS; iintro HS
  iapply (snd m K c 4 (by decide) _ (k0_dev36_eq c) _ _ _ _) $$ HS; iintro HS
  iapply (snd m K c 5 (by decide) _ (k0_dev37_eq c) _ _ _ _) $$ HS; iintro HS
  unfold run; rw [wp_ret]; imodintro; iexact HS

theorem run_part9 : SendSt m K c 6 ⊢ run c (k0_part9 (F := F) i a2 h2 a3 h3 a4 h4 xsM (Memref.isWhole_whole _) xtM (Memref.isWhole_whole _) acM (Memref.isWhole_whole _) cc0_scratch3 cc0_scratch4 c v2 h1) (fun _ => SendSt m K c 9) := by
  rw [k0_part9_eq_skeleton]; unfold k0_part9_skel
  simp only [semSignalWord, semWaitWord, Prog.lift, Prog.bind_op, Prog.bind_ret, Prog.pure_eq_ret]
  iintro HS
  iapply (snd m K c 6 (by decide) _ (k0_dev38_eq c) _ _ _ _) $$ HS; iintro HS
  iapply (snd m K c 7 (by decide) _ (k0_dev39_eq c) _ _ _ _) $$ HS; iintro HS
  iapply (snd m K c 8 (by decide) _ (k0_dev40_eq c) _ _ _ _) $$ HS; iintro HS
  unfold run; rw [wp_ret]; imodintro; iexact HS

theorem run_part10 : SendSt m K c 9 ⊢ run c (k0_part10 (F := F) i a2 h2 a3 h3 a4 h4 xsM (Memref.isWhole_whole _) xtM (Memref.isWhole_whole _) acM (Memref.isWhole_whole _) cc0_scratch3 cc0_scratch4 c v2 h1) (fun _ => SendSt m K c 12) := by
  rw [k0_part10_eq_skeleton]; unfold k0_part10_skel
  simp only [semSignalWord, semWaitWord, Prog.lift, Prog.bind_op, Prog.bind_ret, Prog.pure_eq_ret]
  iintro HS
  iapply (snd m K c 9 (by decide) _ (k0_dev41_eq c) _ _ _ _) $$ HS; iintro HS
  iapply (snd m K c 10 (by decide) _ (k0_dev42_eq c) _ _ _ _) $$ HS; iintro HS
  iapply (snd m K c 11 (by decide) _ (k0_dev43_eq c) _ _ _ _) $$ HS; iintro HS
  unfold run; rw [wp_ret]; imodintro; iexact HS

theorem run_part11 (v : BitVec 32) (w : BitVec 32) : SendSt m K c 12 ⊢ run c (k0_part11 (F := F) i a2 h2 a3 h3 a4 h4 xsM (Memref.isWhole_whole _) xtM (Memref.isWhole_whole _) acM (Memref.isWhole_whole _) cc0_scratch3 cc0_scratch4 c v2 h1 v w) (fun _ => SendSt m K c 15) := by
  rw [k0_part11_eq_skeleton]; unfold k0_part11_skel
  simp only [semSignalWord, semWaitWord, Prog.lift, Prog.bind_op, Prog.bind_ret, Prog.pure_eq_ret]
  iintro HS
  iapply (snd m K c 12 (by decide) _ (k0_dev44_eq c) _ _ _ _) $$ HS; iintro HS
  iapply (snd m K c 13 (by decide) _ (k0_dev45_eq c) _ _ _ _) $$ HS; iintro HS
  iapply (snd m K c 14 (by decide) _ (k0_dev46_eq c) _ _ _ _) $$ HS; iintro HS
  unfold run; rw [wp_ret]; imodintro; iexact HS

theorem run_part12 (v : BitVec 32) : SendSt m K c 15 ⊢ run c (k0_part12 (F := F) i a2 h2 a3 h3 a4 h4 xsM (Memref.isWhole_whole _) xtM (Memref.isWhole_whole _) acM (Memref.isWhole_whole _) cc0_scratch3 cc0_scratch4 c v2 h1 v) (fun _ => SendSt m K c 18) := by
  rw [k0_part12_eq_skeleton]; unfold k0_part12_skel
  simp only [semSignalWord, semWaitWord, Prog.lift, Prog.bind_op, Prog.bind_ret, Prog.pure_eq_ret]
  iintro HS
  iapply (snd m K c 15 (by decide) _ (k0_dev47_eq c) _ _ _ _) $$ HS; iintro HS
  iapply (snd m K c 16 (by decide) _ (k0_dev48_eq c) _ _ _ _) $$ HS; iintro HS
  iapply (snd m K c 17 (by decide) _ (k0_dev49_eq c) _ _ _ _) $$ HS; iintro HS
  unfold run; rw [wp_ret]; imodintro; iexact HS

theorem run_part13 (v : BitVec 32) (w : BitVec 32) : SendSt m K c 18 ⊢ run c (k0_part13 (F := F) i a2 h2 a3 h3 a4 h4 xsM (Memref.isWhole_whole _) xtM (Memref.isWhole_whole _) acM (Memref.isWhole_whole _) cc0_scratch3 cc0_scratch4 c v2 h1 v w) (fun _ => SendSt m K c 21) := by
  rw [k0_part13_eq_skeleton]; unfold k0_part13_skel
  simp only [semSignalWord, semWaitWord, Prog.lift, Prog.bind_op, Prog.bind_ret, Prog.pure_eq_ret]
  iintro HS
  iapply (snd m K c 18 (by decide) _ (k0_dev50_eq c) _ _ _ _) $$ HS; iintro HS
  iapply (snd m K c 19 (by decide) _ (k0_dev51_eq c) _ _ _ _) $$ HS; iintro HS
  iapply (snd m K c 20 (by decide) _ (k0_dev52_eq c) _ _ _ _) $$ HS; iintro HS
  unfold run; rw [wp_ret]; imodintro; iexact HS

theorem run_part14 (v : BitVec 32) : SendSt m K c 21 ⊢ run c (k0_part14 (F := F) i a2 h2 a3 h3 a4 h4 xsM (Memref.isWhole_whole _) xtM (Memref.isWhole_whole _) acM (Memref.isWhole_whole _) cc0_scratch3 cc0_scratch4 c v2 h1 v) (fun _ => SendSt m K c 23) := by
  rw [k0_part14_eq_skeleton]; unfold k0_part14_skel
  simp only [semSignalWord, semWaitWord, Prog.lift, Prog.bind_op, Prog.bind_ret, Prog.pure_eq_ret]
  iintro HS
  iapply (snd m K c 21 (by decide) _ (k0_dev53_eq c) _ _ _ _) $$ HS; iintro HS
  iapply (snd m K c 22 (by decide) _ (k0_dev54_eq c) _ _ _ _) $$ HS; iintro HS
  unfold run; rw [wp_ret]; imodintro; iexact HS

theorem run_part15 : SendSt m K c 23 ⊢ run c (k0_part15 (F := F) i a2 h2 a3 h3 a4 h4 xsM (Memref.isWhole_whole _) xtM (Memref.isWhole_whole _) acM (Memref.isWhole_whole _) cc0_scratch3 cc0_scratch4 c v2 h1) (fun _ => SendSt m K c 26) := by
  rw [k0_part15_eq_skeleton]; unfold k0_part15_skel
  simp only [semSignalWord, semWaitWord, Prog.lift, Prog.bind_op, Prog.bind_ret, Prog.pure_eq_ret]
  iintro HS
  iapply (snd m K c 23 (by decide) _ (k0_dev55_eq c) _ _ _ _) $$ HS; iintro HS
  iapply (snd m K c 24 (by decide) _ (k0_dev56_eq c) _ _ _ _) $$ HS; iintro HS
  iapply (snd m K c 25 (by decide) _ (k0_dev57_eq c) _ _ _ _) $$ HS; iintro HS
  unfold run; rw [wp_ret]; imodintro; iexact HS

theorem run_part16 : SendSt m K c 26 ⊢ run c (k0_part16 (F := F) i a2 h2 a3 h3 a4 h4 xsM (Memref.isWhole_whole _) xtM (Memref.isWhole_whole _) acM (Memref.isWhole_whole _) cc0_scratch3 cc0_scratch4 c v2 h1) (fun _ => SendSt m K c 29) := by
  rw [k0_part16_eq_skeleton]; unfold k0_part16_skel
  simp only [semSignalWord, semWaitWord, Prog.lift, Prog.bind_op, Prog.bind_ret, Prog.pure_eq_ret]
  iintro HS
  iapply (snd m K c 26 (by decide) _ (k0_dev58_eq c) _ _ _ _) $$ HS; iintro HS
  iapply (snd m K c 27 (by decide) _ (k0_dev59_eq c) _ _ _ _) $$ HS; iintro HS
  iapply (snd m K c 28 (by decide) _ (k0_dev60_eq c) _ _ _ _) $$ HS; iintro HS
  unfold run; rw [wp_ret]; imodintro; iexact HS

end Cert.KernelIdealProof
-- ==== Proof.Recv.lean ====
module

public import proofs.«01_k».proof.Proof.Start

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-!
# The receives of a group and the drain of the sends

Before its first product group `g` awaits the blocks of the devices `8 g`, …, `8 g + 7`, its own excepted.  At the last
point the device awaits the completion of its own transfers.
-/

variable (m : (ℓ : Loc nD τ sig) → Buf (Elt F) ℓ) (K : Dev nD × Option (Bool × Dev nD) → ℕ)

/-- The group a point belongs to, and the devices whose blocks it awaits. -/
theorem grp_lt (i : grid0.Coords) : (i 0).val < 4 := (i 0).isLt
theorem col_lt (i : grid0.Coords) : (i 1).val < 8 := (i 1).isLt

/-- Member `r` of group `g`. -/
def mem8 (g : ℕ) (r : ℕ) (hg : g < 4) (hr : r < 8) : Dev nD := ⟨8 * g + r, by show 8 * g + r < 32; omega⟩

/-- A step under a condition whose both ways go on with the same program. -/
theorem seg_if {c : Dev nD} {α : Type} {b : Prop} [Decidable b] {T : b → Prog (TpuEff nD τ sig (Elt F) Λ₀ .tc) α}
    {R : Prog (TpuEff nD τ sig (Elt F) Λ₀ .tc) α} {P P' : sProp 𝕄} {Q : α → sProp 𝕄}
    (hE : ¬ b → P ⊢ P') (hR : P' ⊢ run c R Q) (hT : (P' ⊢ run c R Q) → ∀ h : b, P ⊢ run c (T h) Q) :
    P ⊢ run c (if h : b then T h else R) Q := by
  by_cases h : b
  · rw [dif_pos h]; exact hT hR h
  · rw [dif_neg h]; exact (hE h).trans hR

/-- The wait for the block of device `s`, which is not made when `s` is the device itself. -/
theorem rcv (c s : Dev nD) {k : ℕ} (hk : s.val = k) {b : Prop} [Decidable b] (hb : b ↔ s ≠ c) {sR : b → DmaSem sig} {off : Fin 2 → ℕ}
    {s' : Shape} {e' : EltTy} {sp' : Space} {src : b → Memref sig .tc sp' s' e'} {hsrc : ∀ h, (src h).view.WordExact}
    {inb : b → ∀ a : Fin S128x4096.rank, off a + S128x128.size a ≤ S128x4096.size a} {hdst : ∀ h, (xtB off (inb h)).view.WordExact}
    {α : Type} {Q : α → sProp 𝕄} {R : Prog (TpuEff nD τ sig (Elt F) Λ₀ .tc) α} (hsR : ∀ h, sR h = recvS s)
    (hR : RecvSt m K c (k + 1) ⊢ run c R Q) :
    RecvSt m K c k ⊢ run c (if h : b then .op (.waitDma2 (sR h) (src h) (xtB off (inb h)) (hsrc h) (hdst h)) (fun _ => R) else R) Q := by
  subst hk
  refine seg_if (fun h => Entails.of_eq (step_recv_skip m K c s (not_not.mp fun h' => h (hb.mpr h')))) hR fun hR h => ?_
  iintro HS
  iapply (step_recv m K c s (hb.mp h) (sR h) (hsR h) (inb h)) $$ HS
  iintro HS
  iapply hR
  iexact HS

theorem cond3_iff : ∀ (i : grid0.Coords) (c : Dev nD), k0_cond3 i c = 1#1 ↔ mem8 (i 0).val 0 (grp_lt i) (by decide) ≠ c := by
  decide +kernel
theorem cond4_iff : ∀ (i : grid0.Coords) (c : Dev nD), k0_cond4 i c = 1#1 ↔ mem8 (i 0).val 1 (grp_lt i) (by decide) ≠ c := by
  decide +kernel
theorem cond5_iff : ∀ (i : grid0.Coords) (c : Dev nD), k0_cond5 i c = 1#1 ↔ mem8 (i 0).val 2 (grp_lt i) (by decide) ≠ c := by
  decide +kernel
theorem cond6_iff : ∀ (i : grid0.Coords) (c : Dev nD), k0_cond6 i c = 1#1 ↔ mem8 (i 0).val 3 (grp_lt i) (by decide) ≠ c := by
  decide +kernel
theorem cond7_iff : ∀ (i : grid0.Coords) (c : Dev nD), k0_cond7 i c = 1#1 ↔ mem8 (i 0).val 4 (grp_lt i) (by decide) ≠ c := by
  decide +kernel
theorem cond8_iff : ∀ (i : grid0.Coords) (c : Dev nD), k0_cond8 i c = 1#1 ↔ mem8 (i 0).val 5 (grp_lt i) (by decide) ≠ c := by
  decide +kernel
theorem cond9_iff : ∀ (i : grid0.Coords) (c : Dev nD), k0_cond9 i c = 1#1 ↔ mem8 (i 0).val 6 (grp_lt i) (by decide) ≠ c := by
  decide +kernel
theorem cond10_iff : ∀ (i : grid0.Coords) (c : Dev nD), k0_cond10 i c = 1#1 ↔ mem8 (i 0).val 7 (grp_lt i) (by decide) ≠ c := by
  decide +kernel

variable (i : grid0.Coords) (a2 : Memref sig .tc .vmem S4096x128 .bf16) (h2 : a2.IsWhole) (a3 : Memref sig .tc .vmem S1024x1024 .bf16)
  (h3 : a3.IsWhole) (a4 : Memref sig .tc .vmem S128x1024 .f32) (h4 : a4.IsWhole) (c : Dev nD) (v2 : BitVec 32)

theorem run_part17 (w : BitVec 32) (hc : k0_cond2 i = 1#1) :
    RecvSt m K c (8 * (i 0).val) ⊢ run c (k0_part17 (F := F) i a2 h2 a3 h3 a4 h4 xsM (Memref.isWhole_whole _) xtM (Memref.isWhole_whole _) acM (Memref.isWhole_whole _) cc0_scratch3 cc0_scratch4 w c v2 hc) (fun _ => RecvSt m K c (8 * (i 0).val + 6)) := by
  rw [k0_part17_eq_skeleton]; unfold k0_part17_skel
  simp only [Prog.lift, Prog.bind_op, Prog.bind_ret, Prog.pure_eq_ret]
  refine rcv m K c (mem8 (i 0).val 0 (grp_lt i) (by decide)) rfl (cond3_iff i c) (fun h => sem_recv_eq _ _ _ (k0_off7_eq i)) ?_
  refine rcv m K c (mem8 (i 0).val 1 (grp_lt i) (by decide)) rfl (cond4_iff i c) (fun h => sem_recv_eq _ _ _ (k0_off10_eq i)) ?_
  refine rcv m K c (mem8 (i 0).val 2 (grp_lt i) (by decide)) rfl (cond5_iff i c) (fun h => sem_recv_eq _ _ _ (k0_off13_eq i)) ?_
  refine rcv m K c (mem8 (i 0).val 3 (grp_lt i) (by decide)) rfl (cond6_iff i c) (fun h => sem_recv_eq _ _ _ (k0_off16_eq i)) ?_
  refine rcv m K c (mem8 (i 0).val 4 (grp_lt i) (by decide)) rfl (cond7_iff i c) (fun h => sem_recv_eq _ _ _ (k0_off19_eq i)) ?_
  refine rcv m K c (mem8 (i 0).val 5 (grp_lt i) (by decide)) rfl (cond8_iff i c) (fun h => sem_recv_eq _ _ _ (k0_off22_eq i)) ?_
  unfold run; rw [wp_ret]; iintro HS; imodintro; iexact HS

/-- One wait for a transfer of the device's own. -/
theorem drn (i : grid0.Coords) (c : Dev nD) (k : ℕ) (hk : k < 31) {o₃ : Fin 2 → ℕ} {o₁ : Fin 1 → ℕ}
    (e₁ : o₁ = ![(c.val + k + 1) % 32]) (inb₁ : ∀ a : Fin S32.rank, o₁ a + S1.size a ≤ S32.size a)
    (inb₃ : ∀ a : Fin S4096x128.rank, o₃ a + S128x128.size a ≤ S4096x128.size a)
    {s' : Shape} {e' : EltTy} {sp' : Space} {src : Memref sig .tc sp' s' e'} {hsrc : src.view.WordExact}
    {hdst : (xsB o₃ inb₃).view.WordExact}
    {α : Type} {Q : α → sProp 𝕄} {p : PUnit → Prog (TpuEff nD τ sig (Elt F) Λ₀ .tc) α} :
    DrainSt m K c k ⊢ iprop((DrainSt m K c (k + 1) -∗ run c (p ⟨⟩) Q)
      -∗ run c (.op (.waitDma2 ((cc0_scratch3.slice (Rect.unit (s := S32) o₁ S1.size inb₁)).squeeze S_ squeezes_S1_S_).sem src (xsB o₃ inb₃) hsrc hdst) p) Q) :=
  step_drain m K c ⟨k, hk⟩ _ (sem_send_eq c o₁ inb₁ (tgt c ⟨k, hk⟩) (e₁.trans (by simp only [tgt_val]))) inb₃

theorem run_part18 (hc : k0_cond14 i = 1#1) :
    DrainSt m K c 0 ⊢ run c (k0_part18 (F := F) i a2 h2 a3 h3 a4 h4 xsM (Memref.isWhole_whole _) xtM (Memref.isWhole_whole _) acM (Memref.isWhole_whole _) cc0_scratch3 cc0_scratch4 c v2 hc) (fun _ => DrainSt m K c 3) := by
  rw [k0_part18_eq_skeleton]; unfold k0_part18_skel
  simp only [Prog.lift, Prog.bind_op, Prog.bind_ret, Prog.pure_eq_ret]
  iintro HS
  iapply (drn m K i c 0 (by decide) (k0_off35_eq c 0) _ _) $$ HS; iintro HS
  iapply (drn m K i c 1 (by decide) (k0_off35_eq c 1) _ _) $$ HS; iintro HS
  iapply (drn m K i c 2 (by decide) (k0_off35_eq c 2) _ _) $$ HS; iintro HS
  unfold run; rw [wp_ret]; imodintro; iexact HS

theorem run_part19 (hc : k0_cond14 i = 1#1) :
    DrainSt m K c 3 ⊢ run c (k0_part19 (F := F) i a2 h2 a3 h3 a4 h4 xsM (Memref.isWhole_whole _) xtM (Memref.isWhole_whole _) acM (Memref.isWhole_whole _) cc0_scratch3 cc0_scratch4 c v2 hc) (fun _ => DrainSt m K c 7) := by
  rw [k0_part19_eq_skeleton]; unfold k0_part19_skel
  simp only [Prog.lift, Prog.bind_op, Prog.bind_ret, Prog.pure_eq_ret]
  iintro HS
  iapply (drn m K i c 3 (by decide) (k0_off35_eq c 3) _ _) $$ HS; iintro HS
  iapply (drn m K i c 4 (by decide) (k0_off35_eq c 4) _ _) $$ HS; iintro HS
  iapply (drn m K i c 5 (by decide) (k0_off35_eq c 5) _ _) $$ HS; iintro HS
  iapply (drn m K i c 6 (by decide) (k0_off35_eq c 6) _ _) $$ HS; iintro HS
  unfold run; rw [wp_ret]; imodintro; iexact HS

theorem run_part20 (hc : k0_cond14 i = 1#1) :
    DrainSt m K c 7 ⊢ run c (k0_part20 (F := F) i a2 h2 a3 h3 a4 h4 xsM (Memref.isWhole_whole _) xtM (Memref.isWhole_whole _) acM (Memref.isWhole_whole _) cc0_scratch3 cc0_scratch4 c v2 hc) (fun _ => DrainSt m K c 11) := by
  rw [k0_part20_eq_skeleton]; unfold k0_part20_skel
  simp only [Prog.lift, Prog.bind_op, Prog.bind_ret, Prog.pure_eq_ret]
  iintro HS
  iapply (drn m K i c 7 (by decide) (k0_off35_eq c 7) _ _) $$ HS; iintro HS
  iapply (drn m K i c 8 (by decide) (k0_off35_eq c 8) _ _) $$ HS; iintro HS
  iapply (drn m K i c 9 (by decide) (k0_off35_eq c 9) _ _) $$ HS; iintro HS
  iapply (drn m K i c 10 (by decide) (k0_off35_eq c 10) _ _) $$ HS; iintro HS
  unfold run; rw [wp_ret]; imodintro; iexact HS

theorem run_part21 (hc : k0_cond14 i = 1#1) (w : BitVec 32) :
    DrainSt m K c 11 ⊢ run c (k0_part21 (F := F) i a2 h2 a3 h3 a4 h4 xsM (Memref.isWhole_whole _) xtM (Memref.isWhole_whole _) acM (Memref.isWhole_whole _) cc0_scratch3 cc0_scratch4 c v2 hc w) (fun _ => DrainSt m K c 15) := by
  rw [k0_part21_eq_skeleton]; unfold k0_part21_skel
  simp only [Prog.lift, Prog.bind_op, Prog.bind_ret, Prog.pure_eq_ret]
  iintro HS
  iapply (drn m K i c 11 (by decide) (k0_off35_eq c 11) _ _) $$ HS; iintro HS
  iapply (drn m K i c 12 (by decide) (k0_off35_eq c 12) _ _) $$ HS; iintro HS
  iapply (drn m K i c 13 (by decide) (k0_off35_eq c 13) _ _) $$ HS; iintro HS
  iapply (drn m K i c 14 (by decide) (k0_off35_eq c 14) _ _) $$ HS; iintro HS
  unfold run; rw [wp_ret]; imodintro; iexact HS

theorem run_part22 (hc : k0_cond14 i = 1#1) :
    DrainSt m K c 15 ⊢ run c (k0_part22 (F := F) i a2 h2 a3 h3 a4 h4 xsM (Memref.isWhole_whole _) xtM (Memref.isWhole_whole _) acM (Memref.isWhole_whole _) cc0_scratch3 cc0_scratch4 c v2 hc) (fun _ => DrainSt m K c 18) := by
  rw [k0_part22_eq_skeleton]; unfold k0_part22_skel
  simp only [Prog.lift, Prog.bind_op, Prog.bind_ret, Prog.pure_eq_ret]
  iintro HS
  iapply (drn m K i c 15 (by decide) (k0_off35_eq c 15) _ _) $$ HS; iintro HS
  iapply (drn m K i c 16 (by decide) (k0_off35_eq c 16) _ _) $$ HS; iintro HS
  iapply (drn m K i c 17 (by decide) (k0_off35_eq c 17) _ _) $$ HS; iintro HS
  unfold run; rw [wp_ret]; imodintro; iexact HS

theorem run_part23 (hc : k0_cond14 i = 1#1) :
    DrainSt m K c 18 ⊢ run c (k0_part23 (F := F) i a2 h2 a3 h3 a4 h4 xsM (Memref.isWhole_whole _) xtM (Memref.isWhole_whole _) acM (Memref.isWhole_whole _) cc0_scratch3 cc0_scratch4 c v2 hc) (fun _ => DrainSt m K c 22) := by
  rw [k0_part23_eq_skeleton]; unfold k0_part23_skel
  simp only [Prog.lift, Prog.bind_op, Prog.bind_ret, Prog.pure_eq_ret]
  iintro HS
  iapply (drn m K i c 18 (by decide) (k0_off35_eq c 18) _ _) $$ HS; iintro HS
  iapply (drn m K i c 19 (by decide) (k0_off35_eq c 19) _ _) $$ HS; iintro HS
  iapply (drn m K i c 20 (by decide) (k0_off35_eq c 20) _ _) $$ HS; iintro HS
  iapply (drn m K i c 21 (by decide) (k0_off35_eq c 21) _ _) $$ HS; iintro HS
  unfold run; rw [wp_ret]; imodintro; iexact HS

theorem run_part24 (hc : k0_cond14 i = 1#1) :
    DrainSt m K c 22 ⊢ run c (k0_part24 (F := F) i a2 h2 a3 h3 a4 h4 xsM (Memref.isWhole_whole _) xtM (Memref.isWhole_whole _) acM (Memref.isWhole_whole _) cc0_scratch3 cc0_scratch4 c v2 hc) (fun _ => DrainSt m K c 26) := by
  rw [k0_part24_eq_skeleton]; unfold k0_part24_skel
  simp only [Prog.lift, Prog.bind_op, Prog.bind_ret, Prog.pure_eq_ret]
  iintro HS
  iapply (drn m K i c 22 (by decide) (k0_off35_eq c 22) _ _) $$ HS; iintro HS
  iapply (drn m K i c 23 (by decide) (k0_off35_eq c 23) _ _) $$ HS; iintro HS
  iapply (drn m K i c 24 (by decide) (k0_off35_eq c 24) _ _) $$ HS; iintro HS
  iapply (drn m K i c 25 (by decide) (k0_off35_eq c 25) _ _) $$ HS; iintro HS
  unfold run; rw [wp_ret]; imodintro; iexact HS

theorem run_part25 (hc : k0_cond14 i = 1#1) (w : BitVec 32) :
    DrainSt m K c 26 ⊢ run c (k0_part25 (F := F) i a2 h2 a3 h3 a4 h4 xsM (Memref.isWhole_whole _) xtM (Memref.isWhole_whole _) acM (Memref.isWhole_whole _) cc0_scratch3 cc0_scratch4 c v2 hc w) (fun _ => DrainSt m K c 30) := by
  rw [k0_part25_eq_skeleton]; unfold k0_part25_skel
  simp only [Prog.lift, Prog.bind_op, Prog.bind_ret, Prog.pure_eq_ret]
  iintro HS
  iapply (drn m K i c 26 (by decide) (k0_off35_eq c 26) _ _) $$ HS; iintro HS
  iapply (drn m K i c 27 (by decide) (k0_off35_eq c 27) _ _) $$ HS; iintro HS
  iapply (drn m K i c 28 (by decide) (k0_off35_eq c 28) _ _) $$ HS; iintro HS
  iapply (drn m K i c 29 (by decide) (k0_off35_eq c 29) _ _) $$ HS; iintro HS
  unfold run; rw [wp_ret]; imodintro; iexact HS

end Cert.KernelIdealProof
-- ==== Proof.Acc.lean ====
module

public import proofs.«01_k».proof.Proof.Recv

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-!
# The products of a point

At point `8 g + j` the device multiplies column group `g` of what it gathered by block `(g, j)` of the weights, and adds
the product to column block `j` of a third buffer; the last group's sum goes through the activation into the result.
-/

variable (m : (ℓ : Loc nD τ sig) → Buf (Elt F) ℓ) (K : Dev nD × Option (Bool × Dev nD) → ℕ)

/-- A group's number, whatever number is given. -/
def g4 (g : ℕ) : Fin 4 := ⟨g % 4, Nat.mod_lt _ (by decide)⟩
theorem g4_val {g : ℕ} (h : g < 4) : (g4 g).val = g := Nat.mod_eq_of_lt h

theorem inb_xt (g : Fin 4) : ∀ a : Fin S128x4096.rank, (![0, 1024 * g.val] : Fin 2 → ℕ) a + S128x1024.size a ≤ S128x4096.size a := by
  revert g; decide
theorem inb_ac (j : Fin 8) : ∀ a : Fin S128x8192.rank, (![0, 1024 * j.val] : Fin 2 → ℕ) a + S128x1024.size a ≤ S128x8192.size a := by
  revert j; decide

/-- A column group of the gathering buffer, a column block of the sums' buffer, as reached by an access. -/
abbrev xtAcc (off : Fin 2 → ℕ) (inb : ∀ a : Fin S128x4096.rank, off a + S128x1024.size a ≤ S128x4096.size a) :=
  xtM.access (Rect.unit (s := S128x4096) off S128x1024.size inb)
abbrev acAcc (off : Fin 2 → ℕ) (inb : ∀ a : Fin S128x8192.rank, off a + S128x1024.size a ≤ S128x8192.size a) :=
  acM.access (Rect.unit (s := S128x8192) off S128x1024.size inb)

/-- Column group `g` of what device `c` gathers; block `(g, j)` of the weights; column block `j` of a buffer of sums. -/
def XTg (c : Dev nD) (g : ℕ) : Vec F S128x1024 .bf16 := (xtAcc ![0, 1024 * (g4 g).val] (inb_xt (g4 g))).read (Elt F) (XT m c)
def Wb (c : Dev nD) (g : ℕ) (j : Fin 8) : Vec F S1024x1024 .bf16 :=
  (win0_1.blk ⟨8 * (g4 g).val + j.val, by
    have h := (g4 g).isLt; have h' := j.isLt; rw [N_0]; omega⟩).view.read (Elt F) (m ((c : Thread nD τ).loc main_arg1))
def chunk (j : Fin 8) (f : S128x8192.Idx → Elt F .f32) : Vec F S128x1024 .f32 := (acAcc ![0, 1024 * j.val] (inb_ac j)).read (Elt F) f

/-- The sum of the products of groups `0` to `n`, and the result's block. -/
def ACC (c : Dev nD) : ℕ → Fin 8 → Vec F S128x1024 .f32
  | 0, j => k0_pay4 (XTg m c 0) (Wb m c 0 j)
  | n + 1, j => k0_pay5 (XTg m c (n + 1)) (Wb m c (n + 1) j) (ACC c n j)
def OUT (c : Dev nD) (j : Fin 8) : Vec F S128x1024 .f32 := k0_pay6 (XTg m c 3) (Wb m c 3 j) (ACC m c 2 j)

/-- How many products column block `j` holds before point `t`; the last group's is not kept. -/
def cnt (t : ℕ) (j : Fin 8) : ℕ := min 3 ((t + 7 - j.val) / 8)

def AccSt (c : Dev nD) (t : ℕ) : sProp 𝕄 :=
  iprop(∃ f, acPts c f ∗ ⌜∀ (j : Fin 8) (n : ℕ), n + 1 = cnt t j → chunk j f = ACC m c n j⌝)

theorem cnt_zero (j : Fin 8) : cnt 0 j = 0 := by revert j; decide

theorem cnt_self {g : ℕ} (hg : g < 4) (j : Fin 8) : cnt (8 * g + j.val) j = g := by unfold cnt; omega
theorem cnt_next {g : ℕ} (hg : g < 3) (j : Fin 8) : cnt (8 * g + j.val + 1) j = g + 1 := by unfold cnt; omega
theorem cnt_other {g : ℕ} {j j' : Fin 8} (h : j' ≠ j) : cnt (8 * g + j.val + 1) j' = cnt (8 * g + j.val) j' := by
  have h1 : j'.val ≠ j.val := fun e => h (Fin.ext e)
  have h2 := j.isLt
  have h3 := j'.isLt
  unfold cnt
  have : (8 * g + j.val + 1 + 7 - j'.val) / 8 = (8 * g + j.val + 7 - j'.val) / 8 := by omega
  rw [this]
theorem cnt_last (j j' : Fin 8) : cnt (8 * 3 + j.val + 1) j' = cnt (8 * 3 + j.val) j' := by
  have h2 := j.isLt
  have h3 := j'.isLt
  unfold cnt
  omega

theorem acc_zero (c : Dev nD) (f) : acPts c f ⊢ AccSt m c 0 := by
  unfold AccSt
  iintro H
  iexists f
  isplitl [H]; · iexact H
  ipureintro
  intro j n h
  rw [cnt_zero] at h
  exact absurd h (Nat.succ_ne_zero n)

theorem acc_last (c : Dev nD) (j : Fin 8) : AccSt m c (8 * 3 + j.val) = AccSt m c (8 * 3 + j.val + 1) := by
  unfold AccSt
  simp only [cnt_last]

/-- A store to column block `j` sets that block and keeps the others. -/
theorem chunk_store_self (j : Fin 8) (f : S128x8192.Idx → Elt F .f32) (w : Vec F S128x1024 .f32) :
    chunk j ((acAcc ![0, 1024 * j.val] (inb_ac j)).write (Elt F) f w Finset.univ) = w := by
  funext z
  unfold chunk
  rw [View.read_apply]
  exact (congrArg _ (View.write_emb_of_mem _ _ (Finset.mem_univ z))).trans (cast_cast _ _ _)

theorem acc_emb (j : Fin 8) (z : S128x1024.Idx) (a : Fin 2) :
    ((acAcc ![0, 1024 * j.val] (inb_ac j)).emb z a).val = (![0, 1024 * j.val] : Fin 2 → ℕ) a + (z a).val :=
  (Rect.emb_apply _ _ _).trans (congrArg _ (Nat.one_mul _))

theorem chunk_store_other {j j' : Fin 8} (h : j' ≠ j) (f : S128x8192.Idx → Elt F .f32) (w : Vec F S128x1024 .f32) :
    chunk j' ((acAcc ![0, 1024 * j.val] (inb_ac j)).write (Elt F) f w Finset.univ) = chunk j' f := by
  have h1 : j'.val ≠ j.val := fun e => h (Fin.ext e)
  funext z
  unfold chunk
  rw [View.read_apply, View.read_apply]
  refine congrArg _ (View.write_of_not_mem _ _ _ fun hm => ?_)
  obtain ⟨y, -, hy⟩ := Finset.mem_map.mp hm
  have e := congrArg (fun x : S128x8192.Idx => (x 1).val) hy
  have e' : 1024 * j.val + (y 1).val = 1024 * j'.val + (z 1).val := (acc_emb j y 1).symm.trans (e.trans (acc_emb j' z 1))
  have y1 : (y 1).val < 1024 := (y 1).isLt
  have z1 : (z 1).val < 1024 := (z 1).isLt
  omega

theorem acc_store {c : Dev nD} {g : ℕ} (hg : g < 3) (j : Fin 8) {f : S128x8192.Idx → Elt F .f32}
    (hf : ∀ (j' : Fin 8) (n : ℕ), n + 1 = cnt (8 * g + j.val) j' → chunk j' f = ACC m c n j') :
    ∀ (j' : Fin 8) (n : ℕ), n + 1 = cnt (8 * g + j.val + 1) j' →
      chunk j' ((acAcc ![0, 1024 * j.val] (inb_ac j)).write (Elt F) f (ACC m c g j) Finset.univ) = ACC m c n j' := by
  intro j' n hn
  by_cases h : j' = j
  · subst h
    rw [cnt_next hg] at hn
    rw [chunk_store_self, Nat.succ.inj hn]
  · rw [cnt_other h] at hn
    rw [chunk_store_other h]
    exact hf j' n hn

/-! ## The accesses of the sums' buffer -/

/-- The first group's: the product is stored. -/
theorem step_acc0 (c : Dev nD) (j : Fin 8) {o : Fin 2 → ℕ} (ho : o = ![0, 1024 * j.val]) {inb}
    {hl : (acM).view.LoadsAt (Rect.unit (s := S128x8192) o S128x1024.size inb).toLoadRect}
    {hx : (acM.access (Rect.unit (s := S128x8192) o S128x1024.size inb)).Stores Finset.univ} {hm}
    {α : Type} {Q : α → sProp 𝕄} {k : PUnit → Prog (TpuEff nD τ sig (Elt F) Λ₀ .tc) α} :
    AccSt m c (8 * 0 + j.val) ⊢ iprop((AccSt m c (8 * 0 + j.val + 1) -∗ run c (k ⟨⟩) Q)
      -∗ run c (.op (.load acM (Rect.unit (s := S128x8192) o S128x1024.size inb).toLoadRect hl) fun _ =>
          .op (.store acM (Rect.unit (s := S128x8192) o S128x1024.size inb) (k0_pay4 (XTg m c 0) (Wb m c 0 j)) Finset.univ hx hm) k) Q) := by
  subst ho
  unfold AccSt acPts
  iintro ⟨%f, H, %hf⟩ Hk
  iapply (wp_load_rect 𝒱₀ (c : Thread nD τ) none Set.univ (m := acM) (r := Rect.unit (s := S128x8192) _ S128x1024.size inb) (Finset.subset_univ _)) $$ H
  iintro H
  iapply (wp_store 𝒱₀ (c : Thread nD τ) none Set.univ (m := acM) (r := Rect.unit (s := S128x8192) _ S128x1024.size inb)
    (Mk := Finset.univ) (Finset.subset_univ _)) $$ H
  iintro H
  iapply Hk
  iexists _
  isplitl [H]; · iexact H
  ipureintro
  exact acc_store m (g := 0) (by decide) j hf

/-- The next two groups': the product is added to the sum kept. -/
theorem step_acc (c : Dev nD) (j : Fin 8) (n : ℕ) (hn : n < 2) {o : Fin 2 → ℕ} (ho : o = ![0, 1024 * j.val]) {inb}
    {hl : (acM).view.LoadsAt (Rect.unit (s := S128x8192) o S128x1024.size inb).toLoadRect}
    {hl' : (acM).view.LoadsAt (Rect.unit (s := S128x8192) o S128x1024.size inb).toLoadRect}
    {hx : (acM.access (Rect.unit (s := S128x8192) o S128x1024.size inb)).Stores Finset.univ} {hm}
    {α : Type} {Q : α → sProp 𝕄} {k : PUnit → Prog (TpuEff nD τ sig (Elt F) Λ₀ .tc) α} :
    AccSt m c (8 * (n + 1) + j.val) ⊢ iprop((AccSt m c (8 * (n + 1) + j.val + 1) -∗ run c (k ⟨⟩) Q)
      -∗ run c (.op (.load acM (Rect.unit (s := S128x8192) o S128x1024.size inb).toLoadRect hl) fun v =>
          .op (.load acM (Rect.unit (s := S128x8192) o S128x1024.size inb).toLoadRect hl') fun _ =>
          .op (.store acM (Rect.unit (s := S128x8192) o S128x1024.size inb) (k0_pay5 (XTg m c (n + 1)) (Wb m c (n + 1) j) v) Finset.univ hx hm) k) Q) := by
  subst ho
  unfold AccSt acPts
  iintro ⟨%f, H, %hf⟩ Hk
  have hv : (acM.access (Rect.unit (s := S128x8192) _ S128x1024.size inb)).read (Elt F) f = ACC m c n j :=
    hf j n (cnt_self (by omega) j).symm
  iapply (wp_load_rect 𝒱₀ (c : Thread nD τ) none Set.univ (m := acM) (r := Rect.unit (s := S128x8192) _ S128x1024.size inb) (Finset.subset_univ _)) $$ H
  iintro H
  rw [hv]
  iapply (wp_load_rect 𝒱₀ (c : Thread nD τ) none Set.univ (m := acM) (r := Rect.unit (s := S128x8192) _ S128x1024.size inb) (Finset.subset_univ _)) $$ H
  iintro H
  iapply (wp_store 𝒱₀ (c : Thread nD τ) none Set.univ (m := acM) (r := Rect.unit (s := S128x8192) _ S128x1024.size inb)
    (Mk := Finset.univ) (Finset.subset_univ _)) $$ H
  iintro H
  iapply Hk
  iexists _
  isplitl [H]; · iexact H
  ipureintro
  exact acc_store m (g := n + 1) (by omega) j hf

/-- The last group's: the sum goes through the activation into the result's block. -/
theorem step_out (c : Dev nD) (j : Fin 8) {o : Fin 2 → ℕ} (ho : o = ![0, 1024 * j.val]) {inb}
    {hl : (acM).view.LoadsAt (Rect.unit (s := S128x8192) o S128x1024.size inb).toLoadRect}
    (a4 : Memref sig .tc .vmem S128x1024 .f32) (d : S128x1024.Idx → Elt F .f32) {inb'}
    {hl' : a4.view.LoadsAt (Rect.unit (s := S128x1024) ![0, 0] S128x1024.size inb').toLoadRect}
    {hx : (a4.access (Rect.unit (s := S128x1024) ![0, 0] S128x1024.size inb')).Stores Finset.univ} {hm}
    {α : Type} {Q : α → sProp 𝕄} {k : PUnit → Prog (TpuEff nD τ sig (Elt F) Λ₀ .tc) α} :
    iprop(AccSt m c (8 * 3 + j.val) ∗ owns (c : Thread nD τ) a4 fullShare d)
      ⊢ iprop((iprop(AccSt m c (8 * 3 + j.val + 1) ∗ owns (c : Thread nD τ) a4 fullShare (OUT m c j)) -∗ run c (k ⟨⟩) Q)
      -∗ run c (.op (.load acM (Rect.unit (s := S128x8192) o S128x1024.size inb).toLoadRect hl) fun v =>
          .op (.load a4 (Rect.unit (s := S128x1024) ![0, 0] S128x1024.size inb').toLoadRect hl') fun _ =>
          .op (.store a4 (Rect.unit (s := S128x1024) ![0, 0] S128x1024.size inb') (k0_pay6 (XTg m c 3) (Wb m c 3 j) v) Finset.univ hx hm) k) Q) := by
  subst ho
  rw [← acc_last]
  iintro ⟨HA, Ho⟩ Hk
  unfold AccSt acPts
  icases HA with ⟨%f, H, %hf⟩
  have hv : (acM.access (Rect.unit (s := S128x8192) _ S128x1024.size inb)).read (Elt F) f = ACC m c 2 j :=
    hf j 2 (cnt_self (by omega) j).symm
  iapply (wp_load_rect 𝒱₀ (c : Thread nD τ) none Set.univ (m := acM) (r := Rect.unit (s := S128x8192) _ S128x1024.size inb) (Finset.subset_univ _)) $$ H
  iintro H
  rw [hv]
  iapply (load_owns a4 d hz2) $$ Ho
  iintro Ho
  iapply (store_owns a4 d _ hz2) $$ Ho
  iintro Ho
  iapply Hk
  isplitr [Ho]
  · iexists f
    isplitl [H]; · iexact H
    ipureintro; exact hf
  iexact Ho

/-! ## The gathered columns of a group -/

/-- The devices of a group. -/
def grp (g : ℕ) : Finset (Dev nD) := Finset.univ.filter fun s => s.val / 8 = g

theorem xt_group (g : Fin 4) : (xtAcc ![0, 1024 * g.val] (inb_xt g)).set = (grp g.val).biUnion fun s => colset s.val := by
  refine (View.set_slice_whole cc0_scratch1 _).trans ?_
  ext i
  have h0 : (i 0).val < 128 := (i 0).isLt
  have h1 : (i 1).val < 4096 := (i 1).isLt
  rw [Rect.mem_set_unit, Finset.mem_biUnion]
  refine (Fin.forall_fin_two (p := fun a : Fin 2 => _ ∧ _)).trans ?_
  simp only [Matrix.cons_val_zero, Matrix.cons_val_one]
  constructor
  · rintro ⟨-, ha, hb⟩
    refine ⟨⟨(i 1).val / 128, by show _ < 32; omega⟩, Finset.mem_filter.mpr ⟨Finset.mem_univ _, ?_⟩, mem_colset.mpr rfl⟩
    show (i 1).val / 128 / 8 = g.val
    have hb' : (i 1).val < 1024 * g.val + 1024 := hb
    omega
  · rintro ⟨s, hs, hi⟩
    have hs' := (Finset.mem_filter.mp hs).2
    have hi' := mem_colset.mp hi
    refine ⟨⟨Nat.zero_le _, by show (i 0).val < 0 + 128; omega⟩, ?_, ?_⟩
    · omega
    · show (i 1).val < 1024 * g.val + 1024
      omega

/-- What is kept of device `s`'s landing besides the block. -/
def recvAt (c s : Dev nD) : sProp 𝕄 := if s = c then atPos ER (recvCell c s) 0 ∅ 0 else atPos ER (recvCell c s) 1 ∅ 0

theorem recvIt_group (c : Dev nD) (g : ℕ) {s : Dev nD} (hs : s ∈ grp g) :
    recvIt m c (8 * g + 8) s = iprop(recvAt (F := F) c s ∗ xtPts c (colset s.val) (XT m c)) := by
  have hs' := (Finset.mem_filter.mp hs).2
  unfold recvIt recvAt
  by_cases h : s = c
  · rw [if_pos h, if_pos h]
  · rw [if_neg h, if_neg h, if_pos (by omega)]

theorem recv_group (c : Dev nD) (g : Fin 4) :
    bigSep Finset.univ (recvIt m c (8 * g.val + 8))
      = iprop((bigSep (grp g.val) (recvAt (F := F) c) ∗ xtPts c (xtAcc ![0, 1024 * g.val] (inb_xt g)).set (XT m c))
        ∗ bigSep (Finset.univ.filter fun s : Dev nD => ¬ s.val / 8 = g.val) (recvIt m c (8 * g.val + 8))) := by
  rw [BI.bigSep_filter_split Finset.univ (fun s : Dev nD => s.val / 8 = g.val), xt_group]
  refine congrArg (fun P : sProp 𝕄 => iprop(P ∗ _)) ?_
  refine (bigSep_congr fun s hs => recvIt_group m c g.val hs).trans ?_
  rw [bigSep_sep']
  refine congrArg (fun P : sProp 𝕄 => iprop(_ ∗ P)) ?_
  unfold xtPts
  exact (pointsTo_biUnion _ _ fun t _ t' _ h => colset_disj fun e => h (Fin.ext e)).symm

theorem step_load_xt (c : Dev nD) (g : ℕ) (hg : g < 4) {o : Fin 2 → ℕ} (ho : o = ![0, 1024 * g]) {inb}
    {hl : (xtM).view.LoadsAt (Rect.unit (s := S128x4096) o S128x1024.size inb).toLoadRect}
    {α : Type} {Q : α → sProp 𝕄} {k : Vec F S128x1024 .bf16 → Prog (TpuEff nD τ sig (Elt F) Λ₀ .tc) α} :
    RecvSt m K c (8 * g + 8) ⊢ iprop((RecvSt m K c (8 * g + 8) -∗ run c (k (XTg m c g)) Q)
      -∗ run c (.op (.load xtM (Rect.unit (s := S128x4096) o S128x1024.size inb).toLoadRect hl) k) Q) := by
  obtain ⟨g, rfl⟩ : ∃ g' : Fin 4, g'.val = g := ⟨⟨g, hg⟩, rfl⟩
  subst ho
  have hv : XTg m c g.val = (xtAcc ![0, 1024 * g.val] (inb_xt g)).read (Elt F) (XT m c) := by
    unfold XTg
    have h : ∀ g' : Fin 4, g' = g → (xtAcc ![0, 1024 * g'.val] (inb_xt g')).read (Elt F) (XT m c)
        = (xtAcc ![0, 1024 * g.val] (inb_xt g)).read (Elt F) (XT m c) := by rintro _ rfl; rfl
    exact h _ (Fin.ext (g4_val hg))
  rw [hv]
  unfold RecvSt
  rw [recv_group]
  unfold xtPts
  iintro ⟨#Hrec, HO, ⟨Hat, Hx⟩, Hrest⟩ Hk
  iapply (wp_load_rect 𝒱₀ (c : Thread nD τ) none Set.univ (m := xtM) (r := Rect.unit (s := S128x4096) _ S128x1024.size inb) (Finset.Subset.refl _)) $$ Hx
  iintro Hx
  iapply Hk
  isplitr; · iexact Hrec
  isplitl [HO]; · iexact HO
  isplitl [Hat Hx]
  · isplitl [Hat]; · iexact Hat
    iexact Hx
  iexact Hrest

end Cert.KernelIdealProof
-- ==== Proof.Point.lean ====
module

public import proofs.«01_k».proof.Proof.Acc

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-!
# One point of the grid

The body at point `8 g + j` on device `c`: the exchange at the first point, the group's receives at its first point, the
product at every point, and the wait for the device's own transfers at the last.
-/

variable (m : (ℓ : Loc nD τ sig) → Buf (Elt F) ℓ) (K : Dev nD × Option (Bool × Dev nD) → ℕ)

/-! ## When each step is made -/

theorem cond1_iff : ∀ i : grid0.Coords, k0_cond1 i = 1#1 ↔ ((i 0).val = 0 ∧ (i 1).val = 0) := by decide +kernel
theorem cond2_iff : ∀ i : grid0.Coords, k0_cond2 i = 1#1 ↔ (i 1).val = 0 := by decide +kernel
theorem cond11_iff : ∀ i : grid0.Coords, k0_cond11 i = 1#1 ↔ (i 0).val = 0 := by decide +kernel
theorem cond12_iff : ∀ i : grid0.Coords, k0_cond12 i = 1#1 ↔ (0 < (i 0).val ∧ (i 0).val < 3) := by decide +kernel
theorem cond13_iff : ∀ i : grid0.Coords, k0_cond13 i = 1#1 ↔ (i 0).val = 3 := by decide +kernel
theorem cond14_iff : ∀ i : grid0.Coords, k0_cond14 i = 1#1 ↔ ((i 0).val = 3 ∧ (i 1).val = 7) := by decide +kernel

/-! ## The states between points -/

/-- What the device keeps of its own transfers until the last point: the barrier passed, the credits of the transfers, and
    the row block of its own. -/
def Held (c : Dev nD) : sProp 𝕄 :=
  iprop(atPos ER (barCell c) 1 ∅ 0
    ∗ (bigSep Finset.univ fun j : Fin 31 => iprop(cred (tallyAt (sendCell c (tgt c j)) () N) ∗ atPos ER (sendCell c (tgt c j)) 0 ∅ 0))
    ∗ atPos ER (sendCell c c) 0 ∅ 0 ∗ xbPts c (rowset c.val) (XB m c))

/-- Between points, after the exchange: `n` receives considered, the sums as they stand before point `t`. -/
def MidSt (c : Dev nD) (n t : ℕ) : sProp 𝕄 := iprop(RecvSt m K c n ∗ Held m c ∗ AccSt m c t)

/-- Before the exchange, besides what the notices and the transfers use. -/
def StartRest (c : Dev nD) : sProp 𝕄 :=
  iprop((bigSep Finset.univ fun j : Fin 31 => iprop(atPos ER (recvCell c (tgt c j)) 0 ∅ 0 ∗ cred (tallyAt (recvCell c (tgt c j)) () N)))
    ∗ atPos ER (recvCell c c) 0 ∅ 0 ∗ (bigSep Finset.univ fun j : Fin 31 => atPos ER (sendCell c (tgt c j)) 0 ∅ 0)
    ∗ atPos ER (sendCell c c) 0 ∅ 0 ∗ ∃ f, acPts (F := F) c f)

theorem mid_intro (a2 : Memref sig .tc .vmem S4096x128 .bf16) (c : Dev nD) :
    iprop(SendSt m K c 31 ∗ SentSt m a2 c ∗ StartRest (F := F) c)
      ⊢ iprop(MidSt m K c 0 0 ∗ owns (c : Thread nD τ) a2 fullShare (xst m c)) := by
  unfold SendSt SentSt StartRest MidSt RecvSt Held
  rw [done_last, Osend_last, bigSep_dev c (recvIt m c 0), recvIt_own, bigSep_sep' (Φ := fun j : Fin 31 => cred (tallyAt (sendCell c (tgt c j)) () N)),
    bigSep_congr (Φ := fun j : Fin 31 => recvIt m c 0 (tgt c j)) (s := Finset.univ) fun j _ => recvIt_ge m (tgt_ne c j) (Nat.not_lt_zero _)]
  iintro ⟨⟨Hrec, HO, -, Hcr⟩, ⟨Hbar, Ha, Hb, Hx⟩, Hrv, Hrc, Hsd, Hsc, ⟨%f, Hac⟩⟩
  isplitr [Ha]
  · isplitl [Hrec HO Hrv Hrc Hx]
    · isplitl [Hrec]; · iexact Hrec
      isplitl [HO]; · iexact HO
      isplitl [Hrc Hx]
      · isplitl [Hrc]; · iexact Hrc
        iexact Hx
      iexact Hrv
    isplitl [Hbar Hcr Hsd Hsc Hb]
    · isplitl [Hbar]; · iexact Hbar
      isplitl [Hcr Hsd]
      · isplitl [Hcr]; · iexact Hcr
        iexact Hsd
      isplitl [Hsc]; · iexact Hsc
      iexact Hb
    iapply (acc_zero m c f)
    iexact Hac
  iexact Ha

/-- A wait for a landing, with the rest kept. -/
theorem rcv_keep (c s : Dev nD) {k : ℕ} (hk : s.val = k) {b : Prop} [Decidable b] (hb : b ↔ s ≠ c) {sR : b → DmaSem sig} {off : Fin 2 → ℕ}
    {s' : Shape} {e' : EltTy} {sp' : Space} {src : b → Memref sig .tc sp' s' e'} {hsrc : ∀ h, (src h).view.WordExact}
    {inb : b → ∀ a : Fin S128x4096.rank, off a + S128x128.size a ≤ S128x4096.size a} {hdst : ∀ h, (xtB off (inb h)).view.WordExact}
    {α : Type} {Q : α → sProp 𝕄} {R : Prog (TpuEff nD τ sig (Elt F) Λ₀ .tc) α} {A : sProp 𝕄} (hsR : ∀ h, sR h = recvS s)
    (hR : iprop(RecvSt m K c (k + 1) ∗ A) ⊢ run c R Q) :
    iprop(RecvSt m K c k ∗ A) ⊢ run c (if h : b then .op (.waitDma2 (sR h) (src h) (xtB off (inb h)) (hsrc h) (hdst h)) (fun _ => R) else R) Q := by
  subst hk
  refine seg_if (fun h => sep_mono_left (Entails.of_eq (step_recv_skip m K c s (not_not.mp fun h' => h (hb.mpr h'))))) hR fun hR h => ?_
  iintro ⟨HS, HA⟩
  iapply (step_recv m K c s (hb.mp h) (sR h) (hsR h) (inb h)) $$ HS
  iintro HS
  iapply hR
  isplitl [HS]; · iexact HS
  iexact HA

/-- The two loads of a point, with what the product's uses need besides. -/
theorem loads_keep (a2 : Memref sig .tc .vmem S4096x128 .bf16) (a3 : Memref sig .tc .vmem S1024x1024 .bf16) (a4 : Memref sig .tc .vmem S128x1024 .f32)
    (c : Dev nD) (g : ℕ) (hg : g < 4) (j : Fin 8) {d : S128x1024.Idx → Elt F .f32} {o : Fin 2 → ℕ} (ho : o = ![0, 1024 * g]) {inb inb'}
    {hl : (xtM).view.LoadsAt (Rect.unit (s := S128x4096) o S128x1024.size inb).toLoadRect}
    {hl' : a3.view.LoadsAt (Rect.unit (s := S1024x1024) ![0, 0] S1024x1024.size inb').toLoadRect}
    {α : Type} {Q : α → sProp 𝕄} {k : Vec F S128x1024 .bf16 → Vec F S1024x1024 .bf16 → Prog (TpuEff nD τ sig (Elt F) Λ₀ .tc) α}
    (hk : iprop((AccSt m c (8 * g + j.val) ∗ owns (c : Thread nD τ) a4 fullShare d)
      ∗ RecvSt m K c (8 * g + 8) ∗ Held m c ∗ owns (c : Thread nD τ) a2 fullShare (xst m c) ∗ owns (c : Thread nD τ) a3 fullShare (Wb m c g j))
        ⊢ run c (k (XTg m c g) (Wb m c g j)) Q) :
    iprop((MidSt m K c (8 * g + 8) (8 * g + j.val) ∗ owns (c : Thread nD τ) a2 fullShare (xst m c))
      ∗ owns (c : Thread nD τ) a3 fullShare (Wb m c g j) ∗ owns (c : Thread nD τ) a4 fullShare d)
      ⊢ run c (.op (.load xtM (Rect.unit (s := S128x4096) o S128x1024.size inb).toLoadRect hl) fun v =>
          .op (.load a3 (Rect.unit (s := S1024x1024) ![0, 0] S1024x1024.size inb').toLoadRect hl') fun w => k v w) Q := by
  unfold MidSt
  iintro ⟨⟨⟨HS, HH, HA⟩, H2⟩, H3, H4⟩
  iapply (step_load_xt m K c g hg ho) $$ HS; iintro HS
  iapply (load_owns a3 (Wb m c g j) hz2) $$ H3; iintro H3
  iapply hk
  isplitl [HA H4]
  · isplitl [HA]; · iexact HA
    iexact H4
  isplitl [HS]; · iexact HS
  isplitl [HH]; · iexact HH
  isplitl [H2]; · iexact H2
  iexact H3

variable (i : grid0.Coords) (a2 : Memref sig .tc .vmem S4096x128 .bf16) (h2 : a2.IsWhole) (a3 : Memref sig .tc .vmem S1024x1024 .bf16)
  (h3 : a3.IsWhole) (a4 : Memref sig .tc .vmem S128x1024 .f32) (h4 : a4.IsWhole) (c : Dev nD)

/-- How many receives have been considered before the point's own. -/
def nB (g j : ℕ) : ℕ := if j = 0 then 8 * g else 8 * g + 8

set_option maxHeartbeats 4000000 in
theorem run_part26 (g : ℕ) (hg : (i 0).val = g) (j : Fin 8) (hj : (i 1).val = j.val) (d : S128x1024.Idx → Elt F .f32) (PA : sProp 𝕄)
    (hA1 : k0_cond1 i = 1#1 → PA ⊢ iprop(SigSt m K c 0 ∗ BeginSt (F := F) a2 c (xst m c) ∗ StartRest (F := F) c))
    (hA0 : ¬ k0_cond1 i = 1#1 → PA ⊢ iprop(MidSt m K c (nB g j.val) (8 * g + j.val) ∗ owns (c : Thread nD τ) a2 fullShare (xst m c))) :
    iprop(PA ∗ owns (c : Thread nD τ) a3 fullShare (Wb m c g j) ∗ owns (c : Thread nD τ) a4 fullShare d)
      ⊢ run c (k0_part26 (F := F) i a2 h2 a3 h3 a4 h4 xsM (Memref.isWhole_whole _) xtM (Memref.isWhole_whole _) acM (Memref.isWhole_whole _) cc0_scratch3 cc0_scratch4 ) (fun r => iprop(⌜r.1 = c⌝ ∗ (MidSt m K c (8 * g + 8) (8 * g + j.val + 1) ∗ owns (c : Thread nD τ) a2 fullShare (xst m c))
          ∗ owns (c : Thread nD τ) a3 fullShare (Wb m c g j) ∗ owns (c : Thread nD τ) a4 fullShare (if g = 3 then OUT m c j else d))) := by
  have hg4 : g < 4 := hg ▸ grp_lt i
  rw [k0_part26_eq_skeleton]; unfold k0_part26_skel
  simp only [Prog.lift, Prog.bind_op, Prog.bind_ret, Prog.pure_eq_ret]
  unfold run
  rw [wp_deviceId]
  change _ ⊢ run c _ _
  -- the exchange
  refine seg_if (P' := iprop((MidSt m K c (nB g j.val) (8 * g + j.val) ∗ owns (c : Thread nD τ) a2 fullShare (xst m c))
      ∗ owns (c : Thread nD τ) a3 fullShare (Wb m c g j) ∗ owns (c : Thread nD τ) a4 fullShare d)) (fun h => sep_mono_left (hA0 h)) ?_ fun hR h => ?_
  rotate_left
  · have h0 := (cond1_iff i).mp h
    refine (sep_mono_left (hA1 h)).trans ?_
    iintro ⟨⟨HS, HB, HR⟩, Ho⟩
    iapply (run_bind' (run_part1 m K i a2 h2 a3 h3 a4 h4 c _ h)) $$ HS; iintro %v ⟨%hv, HS⟩
    subst hv
    iapply (run_bind (run_part2 m K i a2 h2 a3 h3 a4 h4 c _ h)) $$ HS; iintro %_ HS
    iapply (run_bind (run_part3 m K i a2 h2 a3 h3 a4 h4 c _ h)) $$ HS; iintro %_ HS
    iapply (run_bind (run_part4 m K i a2 h2 a3 h3 a4 h4 c _ h)) $$ HS; iintro %_ HS
    iapply (run_bind (run_part5 m K i a2 h2 a3 h3 a4 h4 c _ h)) $$ HS; iintro %_ HS
    ihave HSB := (show iprop(SigSt m K c 29 ∗ BeginSt (F := F) a2 c (xst m c)) ⊢ _ from Entails.refl _) $$ [HS HB]
    · isplitl [HS]; · iexact HS
      iexact HB
    iapply (run_bind (run_part6 m K i a2 h2 a3 h3 a4 h4 c _ h)) $$ HSB; iintro %_ ⟨HS, HB⟩
    iapply (run_bind (run_part7 m K i a2 h2 a3 h3 a4 h4 c _ h _)) $$ HS; iintro %v7 HS
    iapply (run_bind (run_part8 m K i a2 h2 a3 h3 a4 h4 c _ h)) $$ HS; iintro %v8 HS
    iapply (run_bind (run_part9 m K i a2 h2 a3 h3 a4 h4 c _ h)) $$ HS; iintro %v9 HS
    iapply (run_bind (run_part10 m K i a2 h2 a3 h3 a4 h4 c _ h)) $$ HS; iintro %v10 HS
    iapply (run_bind (run_part11 m K i a2 h2 a3 h3 a4 h4 c _ h _ _)) $$ HS; iintro %v11 HS
    iapply (run_bind (run_part12 m K i a2 h2 a3 h3 a4 h4 c _ h _)) $$ HS; iintro %v12 HS
    iapply (run_bind (run_part13 m K i a2 h2 a3 h3 a4 h4 c _ h _ _)) $$ HS; iintro %v13 HS
    iapply (run_bind (run_part14 m K i a2 h2 a3 h3 a4 h4 c _ h _)) $$ HS; iintro %v14 HS
    iapply (run_bind (run_part15 m K i a2 h2 a3 h3 a4 h4 c _ h)) $$ HS; iintro %v15 HS
    iapply (run_bind (run_part16 m K i a2 h2 a3 h3 a4 h4 c _ h)) $$ HS; iintro %v16 HS
    iapply (snd m K c 29 (by decide) _ (k0_dev61_eq c) _ _ _ _) $$ HS; iintro HS
    iapply (snd m K c 30 (by decide) _ (k0_dev62_eq c) _ _ _ _) $$ HS; iintro HS
    iapply hR
    isplitr [Ho]
    · obtain rfl : g = 0 := hg.symm.trans h0.1
      have hj0 : j.val = 0 := hj.symm.trans h0.2
      rw [hj0]
      iapply (mid_intro m K a2 c)
      isplitl [HS]; · iexact HS
      isplitl [HB]; · iexact HB
      iexact HR
    iexact Ho
  -- the receives
  refine seg_if (P' := iprop((MidSt m K c (8 * g + 8) (8 * g + j.val) ∗ owns (c : Thread nD τ) a2 fullShare (xst m c))
      ∗ owns (c : Thread nD τ) a3 fullShare (Wb m c g j) ∗ owns (c : Thread nD τ) a4 fullShare d)) (fun h => ?_) ?_ fun hR h => ?_
  · rw [nB, if_neg fun e => h ((cond2_iff i).mpr (hj.trans e))]
  rotate_left
  · have h0 := hj.symm.trans ((cond2_iff i).mp h)
    have hR₀ : iprop(RecvSt m K c (8 * g + 7 + 1) ∗ (Held m c ∗ AccSt m c (8 * g + j.val)) ∗ owns (c : Thread nD τ) a2 fullShare (xst m c)
        ∗ owns (c : Thread nD τ) a3 fullShare (Wb m c g j) ∗ owns (c : Thread nD τ) a4 fullShare d)
        ⊢ iprop((MidSt m K c (8 * g + 8) (8 * g + j.val) ∗ owns (c : Thread nD τ) a2 fullShare (xst m c))
          ∗ owns (c : Thread nD τ) a3 fullShare (Wb m c g j) ∗ owns (c : Thread nD τ) a4 fullShare d) := by
      unfold MidSt
      iintro ⟨HS, HA, H2, H34⟩
      isplitr [H34]
      · isplitr [H2]
        · isplitl [HS]; · iexact HS
          iexact HA
        iexact H2
      iexact H34
    have hR' := hR₀.trans hR
    rw [nB, if_pos h0]
    unfold MidSt
    iintro ⟨⟨⟨HS, HA⟩, H2⟩, H34⟩
    subst hg
    iapply (run_bind (run_part17 m K i a2 h2 a3 h3 a4 h4 c _ _ h)) $$ HS; iintro %v17 HS
    iapply (rcv_keep m K c (mem8 (i 0).val 6 (grp_lt i) (by decide)) rfl (cond9_iff i c) (fun h => sem_recv_eq _ _ _ (k0_off25_eq i))
      (rcv_keep m K c (mem8 (i 0).val 7 (grp_lt i) (by decide)) rfl (cond10_iff i c) (fun h => sem_recv_eq _ _ _ (k0_off28_eq i)) hR'))
    isplitl [HS]; · iexact HS
    isplitl [HA]; · iexact HA
    isplitl [H2]; · iexact H2
    iexact H34
  -- the product
  refine loads_keep m K a2 a3 a4 c g hg4 j (by rw [k0_off31_eq, hg]) ?_
  generalize hFR : iprop(RecvSt m K c (8 * g + 8) ∗ Held m c ∗ owns (c : Thread nD τ) a2 fullShare (xst m c) ∗ owns (c : Thread nD τ) a3 fullShare (Wb m c g j)) = FR
  refine seg_if (P' := iprop((AccSt m c (8 * g + j.val + (if g = 0 then 1 else 0)) ∗ owns (c : Thread nD τ) a4 fullShare d) ∗ FR)) (fun h => ?_) ?_ fun hR h => ?_
  · rw [if_neg fun e => h ((cond11_iff i).mpr (hg.trans e))]
    exact Entails.refl _
  rotate_left
  · have h0 : g = 0 := hg.symm.trans ((cond11_iff i).mp h)
    rw [if_pos h0] at hR
    iintro ⟨⟨HA, H4⟩, HF⟩
    subst h0
    iapply (step_acc0 m c j (by rw [k0_off32_eq, hj])) $$ HA; iintro HA
    iapply hR
    isplitr [HF]
    · isplitl [HA]; · iexact HA
      iexact H4
    iexact HF
  refine seg_if (P' := iprop((AccSt m c (8 * g + j.val + (if g < 3 then 1 else 0)) ∗ owns (c : Thread nD τ) a4 fullShare d) ∗ FR)) (fun h => ?_) ?_ fun hR h => ?_
  · rw [cond12_iff, hg] at h
    rw [show (if g = 0 then 1 else 0) = (if g < 3 then 1 else 0) from by split <;> split <;> omega]
  rotate_left
  · rw [cond12_iff, hg] at h
    rw [if_pos h.2] at hR
    rw [if_neg (Nat.pos_iff_ne_zero.mp h.1)]
    obtain ⟨n, rfl⟩ : ∃ n, g = n + 1 := ⟨g - 1, by omega⟩
    iintro ⟨⟨HA, H4⟩, HF⟩
    iapply (step_acc m c j n (by omega) (by rw [k0_off33_eq, hj])) $$ HA; iintro HA
    iapply hR
    isplitr [HF]
    · isplitl [HA]; · iexact HA
      iexact H4
    iexact HF
  refine seg_if (P' := iprop((AccSt m c (8 * g + j.val + 1) ∗ owns (c : Thread nD τ) a4 fullShare (if g = 3 then OUT m c j else d)) ∗ FR)) (fun h => ?_) ?_ fun hR h => ?_
  · rw [cond13_iff, hg] at h
    rw [if_neg h, if_pos (by omega)]
  rotate_left
  · rw [cond13_iff, hg] at h
    subst h
    rw [if_pos rfl] at hR
    rw [if_neg (Nat.lt_irrefl 3)]
    iintro ⟨HA, HF⟩
    iapply (step_out m c j (by rw [k0_off34_eq, hj]) a4 d) $$ HA; iintro HA
    iapply hR
    isplitl [HA]; · iexact HA
    iexact HF
  unfold run; rw [wp_ret]
  iintro ⟨⟨HA, H4⟩, HF⟩
  imodintro
  isplitr; · ipureintro; rfl
  rw [← hFR]
  icases HF with ⟨HS, HH, H2, H3⟩
  unfold MidSt
  isplitr [H3 H4]
  · isplitr [H2]
    · isplitl [HS]; · iexact HS
      isplitl [HH]; · iexact HH
      iexact HA
    iexact H2
  isplitl [H3]; · iexact H3
  iexact H4

end Cert.KernelIdealProof
-- ==== Proof.Body.lean ====
module

public import proofs.«01_k».proof.Proof.Point

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-!
# The whole body at a point

At the last point the device waits for its own transfers; then each of the exchange's cells is closed and its counter read
at zero, and the three buffers are whole again.
-/

variable (m : (ℓ : Loc nD τ sig) → Buf (Elt F) ℓ) (K : Dev nD × Option (Bool × Dev nD) → ℕ)

/-- At the end: every counter of the exchange at zero, and the three buffers whole. -/
def EndSt (c : Dev nD) : sProp 𝕄 :=
  iprop((semVal (barCell c) 0 ∗ (bigSep Finset.univ fun t : Dev nD => semVal (sendCell c t) 0) ∗ bigSep Finset.univ fun s : Dev nD => semVal (recvCell c s) 0)
    ∗ (∃ f, xbPts (F := F) c Finset.univ f) ∗ (∃ f, xtPts (F := F) c Finset.univ f) ∗ ∃ f, acPts (F := F) c f)

def sendAt (c t : Dev nD) : sProp 𝕄 := if t = c then atPos ER (sendCell c t) 0 ∅ 0 else atPos ER (sendCell c t) 1 ∅ 0

theorem close_bar (c : Dev nD) : iprop(records (F := F) m K ∗ atPos ER (barCell c) 1 ∅ 0) ⊢ iprop(|={Set.univ}=> semVal (barCell c) 0) := by
  iintro ⟨#Hrec, Hat⟩
  ihave HB := (records_get m K (c, none)) $$ Hrec
  icases HB with ⟨#HI, -⟩
  iapply (Rounds.cell_close ER (Rd m) (Set.mem_univ (K (c, none))) (fun h => h) (R := 1) (duties_later m (barCell c)))
  isplitr; · iexact HI
  iexact Hat

theorem close_send (c t : Dev nD) : iprop(records (F := F) m K ∗ sendAt c t) ⊢ iprop(|={Set.univ}=> semVal (sendCell c t) 0) := by
  unfold sendAt
  by_cases h : t = c
  · subst h
    rw [if_pos rfl]
    iintro ⟨#Hrec, Hat⟩
    ihave HB := (records_get m K (t, some (false, t))) $$ Hrec
    icases HB with ⟨#HI, -⟩
    iapply (Rounds.cell_close ER (Rd m) (Set.mem_univ (K (t, some (false, t)))) (fun h => h) (R := 0) (fun r _ => duties_send_self m t r))
    isplitr; · iexact HI
    iexact Hat
  · rw [if_neg h]
    iintro ⟨#Hrec, Hat⟩
    ihave HB := (records_get m K (c, some (false, t))) $$ Hrec
    icases HB with ⟨#HI, -⟩
    iapply (Rounds.cell_close ER (Rd m) (Set.mem_univ (K (c, some (false, t)))) (fun h => h) (R := 1) (duties_later m (sendCell c t)))
    isplitr; · iexact HI
    iexact Hat

theorem close_recv (c s : Dev nD) : iprop(records (F := F) m K ∗ recvAt c s) ⊢ iprop(|={Set.univ}=> semVal (recvCell c s) 0) := by
  unfold recvAt
  by_cases h : s = c
  · subst h
    rw [if_pos rfl]
    iintro ⟨#Hrec, Hat⟩
    ihave HB := (records_get m K (s, some (true, s))) $$ Hrec
    icases HB with ⟨#HI, -⟩
    iapply (Rounds.cell_close ER (Rd m) (Set.mem_univ (K (s, some (true, s)))) (fun h => h) (R := 0) (fun r _ => duties_recv_self m s r))
    isplitr; · iexact HI
    iexact Hat
  · rw [if_neg h]
    iintro ⟨#Hrec, Hat⟩
    ihave HB := (records_get m K (c, some (true, s))) $$ Hrec
    icases HB with ⟨#HI, -⟩
    iapply (Rounds.cell_close ER (Rd m) (Set.mem_univ (K (c, some (true, s)))) (fun h => h) (R := 1) (duties_later m (recvCell c s)))
    isplitr; · iexact HI
    iexact Hat

theorem close_sends (c : Dev nD) : iprop(records (F := F) m K ∗ bigSep Finset.univ (sendAt (F := F) c))
    ⊢ iprop(|={Set.univ}=> bigSep Finset.univ fun t : Dev nD => semVal (sendCell c t) 0) :=
  (BI.bigSep_with_persistent fun t _ => close_send m K c t).trans (bigSep_fupd _ _)
theorem close_recvs (c : Dev nD) : iprop(records (F := F) m K ∗ bigSep Finset.univ (recvAt (F := F) c))
    ⊢ iprop(|={Set.univ}=> bigSep Finset.univ fun s : Dev nD => semVal (recvCell c s) 0) :=
  (BI.bigSep_with_persistent fun s _ => close_recv m K c s).trans (bigSep_fupd _ _)

/-- What the wait for the device's own transfers leaves aside. -/
def DrainRest (c : Dev nD) : sProp 𝕄 :=
  iprop(bigSep Finset.univ (recvIt m c 32) ∗ atPos ER (barCell c) 1 ∅ 0 ∗ atPos ER (sendCell c c) 0 ∅ 0 ∗ xbPts c (rowset c.val) (XB m c)
    ∗ ∃ f, acPts (F := F) c f)

theorem drain_intro (c : Dev nD) (t : ℕ) : MidSt m K c 32 t ⊢ iprop(DrainSt m K c 0 ∗ DrainRest m c) := by
  unfold MidSt RecvSt Held AccSt DrainSt DrainRest
  rw [rest_zero, done_zero, bigSep_empty]
  iintro ⟨⟨Hrec, HO, Hr⟩, ⟨Hbar, Hs, Hsc, Hb⟩, ⟨%f, Hac, -⟩⟩
  isplitl [Hrec HO Hs]
  · isplitl [Hrec]; · iexact Hrec
    isplitl [HO]; · iexact HO
    isplitl [Hs]; · iexact Hs
    iempintro
  isplitl [Hr]; · iexact Hr
  isplitl [Hbar]; · iexact Hbar
  isplitl [Hsc]; · iexact Hsc
  isplitl [Hb]; · iexact Hb
  iexists f
  iexact Hac

theorem recvIt_all (c s : Dev nD) : recvIt m c 32 s = iprop(recvAt (F := F) c s ∗ xtPts c (colset s.val) (XT m c)) := by
  unfold recvIt recvAt
  by_cases h : s = c
  · rw [if_pos h, if_pos h]
  · rw [if_neg h, if_neg h, if_pos s.isLt]

theorem recv_all (c : Dev nD) : bigSep Finset.univ (recvIt m c 32)
    = iprop(bigSep Finset.univ (recvAt (F := F) c) ∗ xtPts c Finset.univ (XT m c)) := by
  rw [bigSep_congr (Φ := recvIt m c 32) (s := Finset.univ) fun s _ => recvIt_all m c s, bigSep_sep', ← xt_blocks]

theorem finish (c : Dev nD) : iprop(DrainSt m K c 31 ∗ DrainRest m c) ⊢ iprop(|={Set.univ}=> (ow (F := F) c 0 ∗ EndSt (F := F) c)) := by
  unfold DrainSt DrainRest EndSt
  rw [done_last, recv_all]
  iintro ⟨⟨#Hrec, HO, -, Hdn⟩, ⟨Hr, Hx⟩, Hbar, Hsc, Hb, Hac⟩
  ihave Hdn' := (Entails.of_eq (bigSep_sep' _ _ _)) $$ Hdn
  icases Hdn' with ⟨Hs, Hbs⟩
  ihave Hsend := (show iprop(atPos ER (sendCell c c) 0 ∅ 0 ∗ bigSep Finset.univ fun j : Fin 31 => atPos ER (sendCell c (tgt c j)) 1 ∅ 0)
      ⊢ bigSep Finset.univ (sendAt (F := F) c) from by
    rw [bigSep_dev c (sendAt (F := F) c), bigSep_congr (Φ := fun j : Fin 31 => sendAt (F := F) c (tgt c j)) (s := Finset.univ) fun j _ => if_neg (tgt_ne c j),
      show sendAt (F := F) c c = atPos ER (sendCell c c) 0 ∅ 0 from if_pos rfl]) $$ [Hsc Hs]
  · isplitl [Hsc]; · iexact Hsc
    iexact Hs
  ihave Hbuf := (show iprop(xbPts c (rowset c.val) (XB m c) ∗ bigSep Finset.univ fun j : Fin 31 => xbPts c (rowset (tgt c j).val) (XB m c))
      ⊢ xbPts c Finset.univ (XB m c) from by rw [xb_blocks, bigSep_dev c]) $$ [Hb Hbs]
  · isplitl [Hb]; · iexact Hb
    iexact Hbs
  imod (close_bar m K c) $$ [Hbar] with HzB
  · isplitr; · iexact Hrec
    iexact Hbar
  imod (close_sends m K c) $$ [Hsend] with HzS
  · isplitr; · iexact Hrec
    iexact Hsend
  imod (close_recvs m K c) $$ [Hr] with HzR
  · isplitr; · iexact Hrec
    iexact Hr
  imodintro
  isplitl [HO]; · iexact HO
  isplitl [HzB HzS HzR]
  · isplitl [HzB]; · iexact HzB
    isplitl [HzS]; · iexact HzS
    iexact HzR
  isplitl [Hbuf]; · iexists _; iexact Hbuf
  isplitl [Hx]; · iexists _; iexact Hx
  iexact Hac

variable (i : grid0.Coords) (a2 : Memref sig .tc .vmem S4096x128 .bf16) (h2 : a2.IsWhole) (a3 : Memref sig .tc .vmem S1024x1024 .bf16)
  (h3 : a3.IsWhole) (a4 : Memref sig .tc .vmem S128x1024 .f32) (h4 : a4.IsWhole) (c : Dev nD)

/-- What a point leaves. -/
def AftSt (c : Dev nD) (g j : ℕ) : sProp 𝕄 :=
  if g = 3 ∧ j = 7 then iprop(ow (F := F) c 0 ∗ EndSt (F := F) c) else MidSt m K c (8 * g + 8) (8 * g + j + 1)

set_option maxHeartbeats 2000000 in
theorem run_body (g : ℕ) (hg : (i 0).val = g) (j : Fin 8) (hj : (i 1).val = j.val) (d : S128x1024.Idx → Elt F .f32) (PA : sProp 𝕄)
    (hA1 : k0_cond1 i = 1#1 → PA ⊢ iprop(SigSt m K c 0 ∗ BeginSt (F := F) a2 c (xst m c) ∗ StartRest (F := F) c))
    (hA0 : ¬ k0_cond1 i = 1#1 → PA ⊢ iprop(MidSt m K c (nB g j.val) (8 * g + j.val) ∗ owns (c : Thread nD τ) a2 fullShare (xst m c))) :
    iprop(PA ∗ owns (c : Thread nD τ) a3 fullShare (Wb m c g j) ∗ owns (c : Thread nD τ) a4 fullShare d)
      ⊢ run c (cc0_body (F := F) i a2 h2 a3 h3 a4 h4 xsM (Memref.isWhole_whole _) xtM (Memref.isWhole_whole _) acM (Memref.isWhole_whole _) cc0_scratch3 cc0_scratch4)
        (fun _ => iprop((AftSt m K c g j.val ∗ owns (c : Thread nD τ) a2 fullShare (xst m c))
          ∗ owns (c : Thread nD τ) a3 fullShare (Wb m c g j) ∗ owns (c : Thread nD τ) a4 fullShare (if g = 3 then OUT m c j else d))) := by
  rw [cc0_body_eq_skeleton]; unfold cc0_body_skel
  simp only [Prog.lift, Prog.bind_op, Prog.bind_ret, Prog.pure_eq_ret]
  refine run_seq (run_part26 m K i a2 h2 a3 h3 a4 h4 c g hg j hj d PA hA1 hA0) fun r => ?_
  obtain ⟨d0, v2, v29, v30⟩ := r
  dsimp only
  iintro ⟨%hd, ⟨HM, H2⟩, H34⟩
  subst hd
  unfold AftSt
  by_cases h : k0_cond14 i = 1#1
  · have h0 := (cond14_iff i).mp h
    have h1 : g = 3 ∧ j.val = 7 := ⟨hg.symm.trans h0.1, hj.symm.trans h0.2⟩
    rw [dif_pos h, if_pos (c := g = 3 ∧ j.val = 7) h1]
    obtain rfl : g = 3 := hg.symm.trans h0.1
    ihave HD := (drain_intro m K d0 (8 * 3 + j.val + 1)) $$ HM
    icases HD with ⟨HS, HR⟩
    iapply (run_bind (run_part18 m K i a2 h2 a3 h3 a4 h4 d0 _ h)) $$ HS; iintro %v18 HS
    iapply (run_bind (run_part19 m K i a2 h2 a3 h3 a4 h4 d0 _ h)) $$ HS; iintro %v19 HS
    iapply (run_bind (run_part20 m K i a2 h2 a3 h3 a4 h4 d0 _ h)) $$ HS; iintro %v20 HS
    iapply (run_bind (run_part21 m K i a2 h2 a3 h3 a4 h4 d0 _ h _)) $$ HS; iintro %v21 HS
    iapply (run_bind (run_part22 m K i a2 h2 a3 h3 a4 h4 d0 _ h)) $$ HS; iintro %v22 HS
    iapply (run_bind (run_part23 m K i a2 h2 a3 h3 a4 h4 d0 _ h)) $$ HS; iintro %v23 HS
    iapply (run_bind (run_part24 m K i a2 h2 a3 h3 a4 h4 d0 _ h)) $$ HS; iintro %v24 HS
    iapply (run_bind (run_part25 m K i a2 h2 a3 h3 a4 h4 d0 _ h _)) $$ HS; iintro %v25 HS
    iapply (drn m K i d0 30 (by decide) (k0_off35_eq d0 30) _ _) $$ HS; iintro HS
    unfold run; rw [wp_ret]
    imod (finish m K d0) $$ [HS HR] with HE
    · isplitl [HS]; · iexact HS
      iexact HR
    imodintro
    isplitr [H34]
    · isplitl [HE]; · iexact HE
      iexact H2
    iexact H34
  · have h0 : ¬ (g = 3 ∧ j.val = 7) := fun e => h ((cond14_iff i).mpr ⟨hg.trans e.1, hj.trans e.2⟩)
    rw [dif_neg h, if_neg (c := g = 3 ∧ j.val = 7) h0]
    unfold run; rw [wp_ret]
    imodintro
    isplitr [H34]
    · isplitl [HM]; · iexact HM
      iexact H2
    iexact H34

end Cert.KernelIdealProof
-- ==== Proof.Obl.lean ====
module

public import proofs.«01_k».proof.Proof.Body
public import Idealize.ShloMosaic.Lib.Pipeline.FrameBody

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-!
# The points as the pipeline runs them

What a device holds before each of the 32 points, the proof data, and the body obligation: point `t` is group `t / 8`,
column block `t % 8`.
-/

variable (m : (ℓ : Loc nD τ sig) → Buf (Elt F) ℓ) (ρ : Dev nD → PrngReg)

/-! ## The states -/

/-- What a device starts the exchange with of the semaphores' bookkeeping: its positions, and the duties it pays. -/
def linear (c : Dev nD) : sProp 𝕄 :=
  iprop((atPos ER (barCell c) 0 ∅ 0 ∗ (bigSep Finset.univ fun t : Dev nD => atPos ER (sendCell c t) 0 ∅ 0) ∗ bigSep Finset.univ fun s : Dev nD => atPos ER (recvCell c s) 0 ∅ 0)
    ∗ bigSep Finset.univ fun j : Fin 31 => iprop(dutyTok ER (barCell (tgt c j)) 0 c ∗ dutyTok ER (sendCell c (tgt c j)) 0 c ∗ dutyTok ER (recvCell (tgt c j) c) 0 (tgt c j)))

def start (c : Dev nD) : sProp 𝕄 :=
  iprop((∃ K, records m K ∗ linear (F := F) c) ∗ cred (tallyAt (barCell c) () 31)
    ∗ (bigSep Finset.univ fun j : Fin 31 => cred (tallyAt (recvCell c (tgt c j)) () N)) ∗ levAts L lv)

def bufs (c : Dev nD) : sProp 𝕄 :=
  iprop((∃ f, xbPts (F := F) c Finset.univ f) ∗ (∃ f, xtPts (F := F) c Finset.univ f) ∗ ∃ f, acPts (F := F) c f)

/-- `MidSt` without what the device owes. -/
def MidKeep (K : Dev nD × Option (Bool × Dev nD) → ℕ) (c : Dev nD) (t : ℕ) : sProp 𝕄 :=
  iprop((records m K ∗ bigSep Finset.univ (recvIt m c (nB (t / 8) (t % 8)))) ∗ Held m c ∗ AccSt m c t)

/-- What device `c` holds before point `t`. -/
def Φat (c : Dev nD) (t : ℕ) : sProp 𝕄 :=
  if t = 0 then iprop(start m c ∗ bufs (F := F) c) else if t = 32 then EndSt (F := F) c else iprop(∃ K, MidKeep m K c t)

def owedAt (c : Dev nD) (t : ℕ) : CellTallies nD τ sig Unit := if t = 0 then O₀ c else 0

theorem xt_some (c : Dev nD) (I) (f) : xtPts (F := F) c I f ⊢ iprop(∃ f, xtPts (F := F) c I f) := by
  iintro H
  iexists f
  iexact H

theorem xt_cut (c : Dev nD) (f) : xtPts (F := F) c Finset.univ f
    ⊢ iprop((∃ f, xtPts (F := F) c (colset c.val) f) ∗ bigSep Finset.univ fun j : Fin 31 => iprop(∃ f, xtPts (F := F) c (colset (tgt c j).val) f)) := by
  rw [xt_blocks, bigSep_dev c]
  iintro ⟨H1, H2⟩
  isplitl [H1]; · iexists f; iexact H1
  iapply (show (bigSep Finset.univ fun j : Fin 31 => xtPts (F := F) c (colset (tgt c j).val) f)
      ⊢ bigSep Finset.univ fun j : Fin 31 => iprop(∃ f, xtPts (F := F) c (colset (tgt c j).val) f) from
    bigSep_mono fun j _ => xt_some c _ f)
  iexact H2

theorem start_open (a2 : Memref sig .tc .vmem S4096x128 .bf16) (c : Dev nD) :
    iprop((start m c ∗ bufs (F := F) c) ∗ ow c (O₀ c) ∗ owns (c : Thread nD τ) a2 fullShare (xst m c))
      ⊢ iprop(∃ K, SigSt m K c 0 ∗ BeginSt (F := F) a2 c (xst m c) ∗ StartRest (F := F) c) := by
  unfold start bufs linear SigSt BeginSt StartRest O₀
  rw [rest_zero, bigSep_sep', bigSep_sep', bigSep_sep', bigSep_sep',
    bigSep_dev c (fun t : Dev nD => atPos ER (sendCell c t) 0 ∅ 0), bigSep_dev c (fun t : Dev nD => atPos ER (recvCell c t) 0 ∅ 0)]
  iintro ⟨⟨⟨⟨%K, Hrec, ⟨Hab, ⟨Hsc, Hs⟩, ⟨Hrc, Hr⟩⟩, Ht1, Ht2, Ht3⟩, Hc1, Hc2, Hlev⟩, Hxb, ⟨%f, Hxt⟩, Hac⟩, HO, H2⟩
  ihave Hx := (xt_cut (F := F) c f) $$ Hxt
  icases Hx with ⟨Hx0, Hx⟩
  iexists K
  isplitl [Hrec HO Ht1 Hx]
  · isplitl [Hrec]; · iexact Hrec
    isplitl [HO]; · iexact HO
    isplitl [Ht1]; · iexact Ht1
    iexact Hx
  isplitl [Hc1 Hab Hlev H2 Hxb Hx0 Ht2 Ht3]
  · isplitl [Hc1]; · iexact Hc1
    isplitl [Hab]; · iexact Hab
    isplitl [Hlev]; · iexact Hlev
    isplitl [H2]; · iexact H2
    isplitl [Hxb]; · iexact Hxb
    isplitl [Hx0]; · iexact Hx0
    isplitl [Ht2]; · iexact Ht2
    iexact Ht3
  isplitl [Hr Hc2]
  · isplitl [Hr]; · iexact Hr
    iexact Hc2
  isplitl [Hrc]; · iexact Hrc
  isplitl [Hs]; · iexact Hs
  isplitl [Hsc]; · iexact Hsc
  iexact Hac

theorem mid_open (K : Dev nD × Option (Bool × Dev nD) → ℕ) (c : Dev nD) (t : ℕ) :
    iprop(MidKeep m K c t ∗ ow c 0) ⊢ MidSt m K c (nB (t / 8) (t % 8)) t := by
  unfold MidKeep MidSt RecvSt
  iintro ⟨⟨⟨Hrec, Hr⟩, Hh, Ha⟩, HO⟩
  isplitl [Hrec Hr HO]
  · isplitl [Hrec]; · iexact Hrec
    isplitl [HO]; · iexact HO
    iexact Hr
  isplitl [Hh]; · iexact Hh
  iexact Ha

theorem mid_close (K : Dev nD × Option (Bool × Dev nD) → ℕ) (c : Dev nD) (t : ℕ) :
    MidSt m K c (nB (t / 8) (t % 8)) t ⊢ iprop(MidKeep m K c t ∗ ow c 0) := by
  unfold MidKeep MidSt RecvSt
  iintro ⟨⟨Hrec, HO, Hr⟩, Hh, Ha⟩
  isplitr [HO]
  · isplitl [Hrec Hr]
    · isplitl [Hrec]; · iexact Hrec
      iexact Hr
    isplitl [Hh]; · iexact Hh
    iexact Ha
  iexact HO

theorem aft_close (K : Dev nD × Option (Bool × Dev nD) → ℕ) (c : Dev nD) (t : ℕ) (ht : t < 32) :
    AftSt m K c (t / 8) (t % 8) ⊢ iprop(Φat m c (t + 1) ∗ ow c 0) := by
  unfold AftSt Φat
  rw [if_neg (Nat.succ_ne_zero t)]
  by_cases h : t / 8 = 3 ∧ t % 8 = 7
  · rw [if_pos h, if_pos (c := t + 1 = 32) (by omega)]
    iintro ⟨HO, H⟩
    isplitl [H]; · iexact H
    iexact HO
  · rw [if_neg h, if_neg (c := t + 1 = 32) (by omega)]
    have hn : 8 * (t / 8) + 8 = nB ((t + 1) / 8) ((t + 1) % 8) := by unfold nB; split <;> omega
    have ht : 8 * (t / 8) + t % 8 + 1 = t + 1 := by omega
    rw [ht, hn]
    iintro H
    ihave H' := (mid_close m K c (t + 1)) $$ H
    icases H' with ⟨H, HO⟩
    isplitl [H]; · iexists K; iexact H
    iexact HO

/-! ## The proof data -/

def col (t : Fin cfg0.N) : Fin 8 := ⟨t.val % 8, Nat.mod_lt _ (by decide)⟩

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xst m c
    | ⟨1, _⟩ => Wb m c (t.val / 8) (col t)
    | ⟨2, _⟩ => OUT m c (col t)
  Φ t := Φat m c t.val
  q _ := fullShare
  owed t := owedAt c t.val

theorem lt_N (t : Fin cfg0.N) : t.val < 32 := lt_of_lt_of_eq t.isLt N_0

theorem coords_eq : ∀ t : Fin grid0.N, (grid0.coords t 0).val = t.val / 8 ∧ (grid0.coords t 1).val = t.val % 8 := by decide +kernel

theorem idle_2 (t : Fin cfg0.N) : cfg0.idle 2 (cfg0.grid.coords t) = !decide (t.val / 8 = 3) := by
  show (!(k0_cond13 (grid0.coords t) == 1#1)) = _
  rw [← (coords_eq t).1]
  by_cases h : (grid0.coords t 0).val = 3
  · rw [decide_eq_true h, (cond13_iff _).mpr h]; rfl
  · rw [decide_eq_false h, beq_false_of_ne fun e => h ((cond13_iff _).mp e)]

theorem flush_2 : ∀ t : Fin grid0.N, win0_2.flush t = decide (24 ≤ t.val) := by decide +kernel

theorem xst_eq (c : Dev nD) (t : Fin cfg0.N) : (win0_0.blk t).view.read (Elt F) (m ((c : Thread nD τ).loc main_arg0)) = xst m c := rfl

theorem Wb_eq (c : Dev nD) (t : Fin cfg0.N) : (win0_1.blk t).view.read (Elt F) (m ((c : Thread nD τ).loc main_arg1)) = Wb m c (t.val / 8) (col t) := by
  unfold Wb
  have ht := lt_N t
  have e : (⟨8 * (g4 (t.val / 8)).val + (col t).val, by
    have h := (g4 (t.val / 8)).isLt; have h' := (col t).isLt; rw [N_0]; omega⟩ : Fin grid0.N) = t := Fin.ext (by
      show 8 * (t.val / 8 % 4) + t.val % 8 = t.val
      omega)
  rw [e]

theorem before_0 (c : Dev nD) (t : Fin cfg0.N) (d) : (dats m ρ 0 c).before (0 : Fin 3) t d = xst m c :=
  ((dats m ρ 0 c).before_in_eq_fetched (0 : Fin 3) rfl (fun _ => rfl) (fun _ _ _ => rfl) (fun t => (xst_eq m c t).symm) t d).trans (xst_eq m c t)

theorem before_1 (c : Dev nD) (t : Fin cfg0.N) (d) : (dats m ρ 0 c).before (1 : Fin 3) t d = Wb m c (t.val / 8) (col t) :=
  ((dats m ρ 0 c).before_in_eq_fetched (1 : Fin 3) rfl (fun _ => rfl) (fun _ _ _ => rfl) (fun t => (Wb_eq m c t).symm) t d).trans (Wb_eq m c t)

/-! ## The body obligation -/

theorem body_at (c : Dev nD) (t : Fin cfg0.N) (d : S128x1024.Idx → Elt F .f32) :
    iprop((Φat m c t.val ∗ ow c (owedAt c t.val) ∗ owns (c : Thread nD τ) (st0_0 t) fullShare (xst m c))
        ∗ owns (c : Thread nD τ) (st0_1 t) fullShare (Wb m c (t.val / 8) (col t)) ∗ owns (c : Thread nD τ) (st0_2 t) fullShare d)
      ⊢ run c (bodyAt0 (F := F) t) (fun _ => iprop(((Φat m c (t.val + 1) ∗ ow c 0) ∗ owns (c : Thread nD τ) (st0_0 t) fullShare (xst m c))
        ∗ owns (c : Thread nD τ) (st0_1 t) fullShare (Wb m c (t.val / 8) (col t))
        ∗ owns (c : Thread nD τ) (st0_2 t) fullShare (if t.val / 8 = 3 then OUT m c (col t) else d))) := by
  have ht := lt_N t
  have hc := coords_eq t
  have ex : iprop(Φat m c t.val ∗ ow c (owedAt c t.val) ∗ owns (c : Thread nD τ) (st0_0 t) fullShare (xst m c))
      ⊢ iprop(∃ K, if t.val = 0 then iprop(SigSt m K c 0 ∗ BeginSt (F := F) (st0_0 t) c (xst m c) ∗ StartRest (F := F) c)
          else iprop(MidSt m K c (nB (t.val / 8) (col t).val) (8 * (t.val / 8) + (col t).val) ∗ owns (c : Thread nD τ) (st0_0 t) fullShare (xst m c))) := by
    unfold Φat owedAt
    by_cases h : t.val = 0
    · simp only [if_pos h]
      exact start_open m (st0_0 t) c
    · simp only [if_neg h, if_neg (show ¬ t.val = 32 by omega)]
      have e : 8 * (t.val / 8) + (col t).val = t.val := by show 8 * (t.val / 8) + t.val % 8 = t.val; omega
      rw [e]
      iintro ⟨⟨%K, H⟩, HO, H2⟩
      iexists K
      isplitl [H HO]
      · iapply (mid_open m K c t.val)
        isplitl [H]; · iexact H
        iexact HO
      iexact H2
  refine (sep_mono_left ex).trans ?_
  iintro ⟨⟨%K, H⟩, H34⟩
  iapply (show iprop((if t.val = 0 then iprop(SigSt m K c 0 ∗ BeginSt (F := F) (st0_0 t) c (xst m c) ∗ StartRest (F := F) c)
          else iprop(MidSt m K c (nB (t.val / 8) (col t).val) (8 * (t.val / 8) + (col t).val) ∗ owns (c : Thread nD τ) (st0_0 t) fullShare (xst m c)))
        ∗ owns (c : Thread nD τ) (st0_1 t) fullShare (Wb m c (t.val / 8) (col t)) ∗ owns (c : Thread nD τ) (st0_2 t) fullShare d)
      ⊢ run c (bodyAt0 (F := F) t) (fun _ => iprop(((Φat m c (t.val + 1) ∗ ow c 0) ∗ owns (c : Thread nD τ) (st0_0 t) fullShare (xst m c))
        ∗ owns (c : Thread nD τ) (st0_1 t) fullShare (Wb m c (t.val / 8) (col t))
        ∗ owns (c : Thread nD τ) (st0_2 t) fullShare (if t.val / 8 = 3 then OUT m c (col t) else d))) from
    (run_body m K (grid0.coords t) (st0_0 t) _ (st0_1 t) _ (st0_2 t) _ c (t.val / 8) hc.1 (col t) hc.2 d _
      (fun h1 => by
        have h := (cond1_iff _).mp h1
        rw [hc.1, hc.2] at h
        rw [if_pos (show t.val = 0 by omega)])
      (fun h1 => by
        rw [if_neg (show ¬ t.val = 0 from fun e => h1 ((cond1_iff _).mpr ⟨by rw [hc.1, e], by rw [hc.2, e]⟩))])).trans
      (wp_mono frame (wpE (defs₀ (F := F)) 𝒱₀ (c : Thread nD τ) none) Set.univ fun _ => sep_mono_left (sep_mono_left (aft_close m K c t.val ht))))
  isplitl [H]; · iexact H
  iexact H34

theorem owedAt_succ (c : Dev nD) (t : ℕ) : owedAt c (t + 1) = 0 := if_neg (Nat.succ_ne_zero t)

set_option maxHeartbeats 1000000 in
theorem body_obligation (c : Dev nD) : BodyObligation (dats (F := F) m ρ 0 c) (defs₀ (F := F)) 𝒱₀ () Set.univ := fun t => by
  rw [bigSep_W0, bigSep_W0]
  show iprop(Φat m c t.val ∗ (dats m ρ 0 c).owesAt () t.castSucc
      ∗ (∃ d, owns (c : Thread nD τ) (st0_0 t) fullShare ((dats m ρ 0 c).before (0 : Fin 3) t d))
      ∗ (∃ d, owns (c : Thread nD τ) (st0_1 t) fullShare ((dats m ρ 0 c).before (1 : Fin 3) t d))
      ∗ (∃ d, owns (c : Thread nD τ) (st0_2 t) fullShare ((dats m ρ 0 c).before (2 : Fin 3) t d)))
    ⊢ run c (bodyAt0 (F := F) t) (fun _ => iprop(Φat m c (t.val + 1) ∗ (dats m ρ 0 c).owesAt () t.succ
      ∗ owns (c : Thread nD τ) (st0_0 t) fullShare (xst m c)
      ∗ owns (c : Thread nD τ) (st0_1 t) fullShare (Wb m c (t.val / 8) (col t))
      ∗ (match cfg0.idle 2 (cfg0.grid.coords t) with
          | true =>
            match win0_2.flush t with
            | false => iprop(∃ d, owns (c : Thread nD τ) (st0_2 t) fullShare ((dats m ρ 0 c).before (2 : Fin 3) t d))
            | true => owns (c : Thread nD τ) (st0_2 t) fullShare (OUT m c (col t))
          | false => owns (c : Thread nD τ) (st0_2 t) fullShare (OUT m c (col t)))))
  simp only [before_0, before_1]
  iintro ⟨HΦ, Ho, ⟨%d0, H2⟩, ⟨%d1, H3⟩, ⟨%d2, H4⟩⟩
  unfold Dat.owesAt Pipeline.owesWithin
  icases Ho with ⟨%W, %hW, HO⟩
  rw [show (dats m ρ 0 c).owed t.castSucc = owedAt c t.val from rfl, show (dats m ρ 0 c).owed t.succ = 0 from owedAt_succ c t.val]
  ihave HR := (body_at m c t ((dats m ρ 0 c).before (2 : Fin 3) t d2)) $$ [HΦ HO H2 H3 H4]
  · isplitl [HΦ HO H2]
    · isplitl [HΦ]; · iexact HΦ
      isplitl [HO]; · unfold ow; iexists W; iexact HO
      iexact H2
    isplitl [H3]; · iexact H3
    iexact H4
  unfold run
  iapply (wp_wand frame (wpE (defs₀ (F := F)) 𝒱₀ (c : Thread nD τ) none) Set.univ) $$ HR
  iintro %u ⟨⟨⟨HΦ, HO⟩, H2⟩, H3, H4⟩
  isplitl [HΦ]; · iexact HΦ
  isplitl [HO]
  · unfold ow
    icases HO with ⟨%W', HO⟩
    iexists W'
    isplitr; · ipureintro; exact fun _ _ => Or.inl trivial
    iexact HO
  isplitl [H2]; · iexact H2
  isplitl [H3]; · iexact H3
  iapply (show owns (c : Thread nD τ) (st0_2 t) fullShare (if t.val / 8 = 3 then OUT m c (col t) else (dats m ρ 0 c).before (2 : Fin 3) t d2)
      ⊢ (match cfg0.idle 2 (cfg0.grid.coords t) with
          | true =>
            match win0_2.flush t with
            | false => iprop(∃ d, owns (c : Thread nD τ) (st0_2 t) fullShare ((dats m ρ 0 c).before (2 : Fin 3) t d))
            | true => owns (c : Thread nD τ) (st0_2 t) fullShare (OUT m c (col t))
          | false => owns (c : Thread nD τ) (st0_2 t) fullShare (OUT m c (col t)) : sProp 𝕄) from by
    have ht := lt_N t
    rw [idle_2 t]
    by_cases h : t.val / 8 = 3
    · rw [decide_eq_true h, if_pos h]
      exact BI.Entails.refl _
    · rw [decide_eq_false h, if_neg h, flush_2 t, decide_eq_false (show ¬ 24 ≤ t.val by omega)]
      show owns (c : Thread nD τ) (st0_2 t) fullShare ((dats m ρ 0 c).before (2 : Fin 3) t d2)
        ⊢ iprop(∃ d, owns (c : Thread nD τ) (st0_2 t) fullShare ((dats m ρ 0 c).before (2 : Fin 3) t d))
      iintro H
      iexists d2
      iexact H)
  iexact H4

end Cert.KernelIdealProof
-- ==== Proof.Run.lean ====
module

public import proofs.«01_k».proof.Proof.Obl
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-!
# The launch and the run

The exchange's bookkeeping is dealt at the launch: each semaphore's duties are minted with the semaphore, and then dealt to
the devices that pay them. The run of the whole program follows from the points' obligation.
-/

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## What is minted -/

def xCells : Finset (GSem nD τ sig) := Finset.univ.map ⟨kcell, kcell_inj⟩

/-- Duty tokens by the device whose semaphore they are for, its peer, and the kind of semaphore. -/
abbrev tokOf (p : Dev nD × Fin 31 × Fin 3) : GSem nD τ sig × ℕ × Dev nD :=
  match p.2.2 with
  | 0 => (barCell p.1, 0, tgt p.1 p.2.1)
  | 1 => (sendCell p.1 (tgt p.1 p.2.1), 0, p.1)
  | 2 => (recvCell p.1 (tgt p.1 p.2.1), 0, p.1)

theorem tokOf_inj : Function.Injective tokOf := by
  rintro ⟨c, j, k⟩ ⟨c', j', k'⟩ h
  have h1 : c = c' := by
    have := congrArg (fun x : GSem nD τ sig × ℕ × Dev nD => x.1.1.1) h
    fin_cases k <;> fin_cases k' <;> exact this
  subst h1
  have hs : (tokOf (c, j, k)).1.2 = (tokOf (c, j', k')).1.2 := congrArg (fun x : GSem nD τ sig × ℕ × Dev nD => x.1.2) h
  have hd : (tokOf (c, j, k)).2.2 = (tokOf (c, j', k')).2.2 := congrArg (fun x : GSem nD τ sig × ℕ × Dev nD => x.2.2) h
  have e : j = j' ∧ k = k' := by
    fin_cases k <;> fin_cases k'
    · exact ⟨tgt_inj c hd, rfl⟩
    · exact absurd hs (fun e => by cases e)
    · exact absurd hs (fun e => by cases e)
    · exact absurd hs (fun e => by cases e)
    · exact ⟨tgt_inj c (sendS_inj (SemLoc.dma.inj hs)), rfl⟩
    · exact absurd (SemLoc.dma.inj hs) (sendS_ne_recvS _ _)
    · exact absurd hs (fun e => by cases e)
    · exact absurd (SemLoc.dma.inj hs).symm (sendS_ne_recvS _ _)
    · exact ⟨tgt_inj c (recvS_inj (SemLoc.dma.inj hs)), rfl⟩
  rw [e.1, e.2]

def xToks : Finset (GSem nD τ sig × ℕ × Dev nD) := Finset.univ.map ⟨tokOf, tokOf_inj⟩

def u₀ : UU := (initOf (Pipeline.cells cfgs cellOf_inj) (Pipeline.launchToks cfgs cellOf_inj), initOf xCells xToks)

/-- The duty tokens of device `c`'s own semaphores. -/
def toks (c : Dev nD) : sProp 𝕄 :=
  bigSep Finset.univ fun j : Fin 31 => iprop(dutyTok ER (barCell c) 0 (tgt c j) ∗ dutyTok ER (sendCell c (tgt c j)) 0 c ∗ dutyTok ER (recvCell c (tgt c j)) 0 c)

def posns (c : Dev nD) : sProp 𝕄 := bigSep Finset.univ fun k => iprop(atPos ER (kcell (c, k)) 0 ∅ 0 ∗ reached ER (kcell (c, k)) 0)

/-- What the launch deals device `c`, and what the first step of all devices together makes of it. -/
def G (c : Dev nD) : sProp 𝕄 :=
  iprop((bigSep Finset.univ fun k => roundState ER (Rd m) (kcell (c, k)) 0) ∗ posns (F := F) c ∗ toks (F := F) c)
def G' (c : Dev nD) : sProp 𝕄 := iprop(∃ K, records m K ∗ linear (F := F) c)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_bool (Φ : Bool → sProp 𝕄) : bigSep Finset.univ Φ = iprop(Φ false ∗ Φ true) := bigSep_univ_eq_bigSepL [false, true] (by decide) (by decide) Φ

/-- A family over the exchange's semaphores of a device: the barrier's, the sends', the receives'. -/
theorem bigSep_sems (Φ : Option (Bool × Dev nD) → sProp 𝕄) : bigSep Finset.univ Φ
    = iprop(Φ none ∗ (bigSep Finset.univ fun t : Dev nD => Φ (some (false, t))) ∗ bigSep Finset.univ fun s : Dev nD => Φ (some (true, s))) := by
  rw [bigSep_univ_at _ none, show (Finset.univ : Finset (Option (Bool × Dev nD))).erase none = Finset.univ.map Function.Embedding.some from by
    ext x; cases x <;> simp, bigSep_map, bigSep_univ_prod, bigSep_bool]
  rfl

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks (F := F) c := by
    unfold xToks; rw [bigSep_map, bigSep_univ_prod]
    refine bigSep_congr fun c _ => ?_
    rw [bigSep_univ_prod]
    unfold toks
    exact bigSep_congr fun j _ => by rw [bigSep_fin3]; rfl
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns; simp only [bigSep_sep']
  isplitl [Hst']; · iexact Hst'
  isplitl [Hat' Hr']
  · isplitl [Hat'] <;> iassumption
  iexact Htok'

/-! ## The invariants -/

theorem ownSems0_eq (c : Dev nD) : (Pipeline.ownSems0 (Ix := Unit) (Name := ℕ) (U := UU) (Lvl := ℕ) (Val := Elt F) (τ := τ) osem c : sProp 𝕄)
    = iprop((bigSep Finset.univ fun t : Dev nD => semVal (sendCell c t) 0) ∗ bigSep Finset.univ fun s : Dev nD => semVal (recvCell c s) 0) := by
  unfold Pipeline.ownSems0
  rw [bigSep_univ_prod, bigSep_bool]
  rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, bigSep_sems]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k)))) ∗ posns (F := F) c ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties dealt to those who pay -/

def payToks (c : Dev nD) : sProp 𝕄 :=
  bigSep Finset.univ fun j : Fin 31 => iprop(dutyTok ER (barCell (tgt c j)) 0 c ∗ dutyTok ER (sendCell c (tgt c j)) 0 c ∗ dutyTok ER (recvCell (tgt c j) c) 0 (tgt c j))

/-- A family over pairs (device, peer), counted from the other side. -/
theorem bigSep_turn (Φ : Dev nD × Fin 31 → sProp 𝕄) :
    (bigSep Finset.univ fun c : Dev nD => bigSep Finset.univ fun j : Fin 31 => Φ (c, j))
      = bigSep Finset.univ fun c : Dev nD => bigSep Finset.univ fun j : Fin 31 => Φ (tgt c j, back j) := by
  rw [← bigSep_univ_prod Φ, bigSep_univ_equiv turn, bigSep_univ_prod]
  rfl

theorem toks_around : (bigSep Finset.univ fun c : Dev nD => (toks (F := F) c : sProp 𝕄)) = bigSep Finset.univ fun c : Dev nD => payToks (F := F) c := by
  have hB := bigSep_turn (F := F) fun p => dutyTok ER (barCell p.1) 0 (tgt p.1 p.2)
  have hR := bigSep_turn (F := F) fun p => dutyTok ER (recvCell p.1 (tgt p.1 p.2)) 0 p.1
  simp only [tgt_back] at hB hR
  unfold toks payToks
  simp only [bigSep_sep']
  rw [hB, hR]

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem give (K : Dev nD × Option (Bool × Dev nD) → ℕ) (c : Dev nD) :
    iprop(records m K ∗ (bigSep Finset.univ fun k => atPos ER (kcell (c, k)) 0 ∅ 0) ∗ payToks (F := F) c) ⊢ G' m c := by
  rw [bigSep_sems]
  unfold G' linear payToks
  iintro ⟨Hrec, ⟨HB, HS, HV⟩, Htok⟩
  iexists K
  isplitl [Hrec]; · iexact Hrec
  isplitr [Htok]
  · isplitl [HB]; · iexact HB
    isplitl [HS]; · iexact HS
    iexact HV
  iexact Htok

theorem regroup :
    (bigSep Finset.univ fun c : Dev nD => iprop((bigSep Finset.univ fun k => iprop(∃ κ : ℕ, cellInv ER (Rd m) κ (kcell (c, k)))) ∗ posns (F := F) c ∗ toks (F := F) c) : sProp 𝕄)
      ⊢ bigSep Finset.univ (G' m) := by
  have hP : (bigSep Finset.univ fun c : Dev nD => posns (F := F) c)
      = iprop((bigSep Finset.univ fun c : Dev nD => bigSep Finset.univ fun k => atPos ER (kcell (c, k)) 0 ∅ 0)
        ∗ bigSep Finset.univ fun ck : Dev nD × Option (Bool × Dev nD) => reached ER (kcell ck) 0) := by
    unfold posns
    simp only [bigSep_sep']
    rw [← bigSep_univ_prod (fun ck : Dev nD × Option (Bool × Dev nD) => (reached ER (kcell ck) 0 : sProp 𝕄))]
  rw [bigSep_sep', bigSep_sep', ← bigSep_univ_prod (fun ck : Dev nD × Option (Bool × Dev nD) => iprop(∃ κ : ℕ, cellInv ER (Rd m) κ (kcell ck))), hP, toks_around]
  iintro ⟨HI, ⟨Hat, #HR⟩, Htok⟩
  ihave HK := (BI.bigSep_exists_pi Finset.univ (fun (ck : Dev nD × Option (Bool × Dev nD)) (κ : ℕ) => (cellInv ER (Rd m) κ (kcell ck) : sProp 𝕄))) $$ HI
  icases HK with ⟨%K, #HI⟩
  iapply (with_records (R := records m K) fun c _ => give m K c)
  isplitr
  · unfold records
    rw [bigSep_sep']
    isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem sum_bar (d c : Dev nD) : O₀ d (barCell c) () = ∑ j : Fin 31, if d = tgt c (back j) then 1 else 0 := by
  unfold O₀ Osend Osig
  rw [Pi.add_apply, Finsupp.add_apply, sum_tallies_apply, sum_tallies_apply, rest_zero,
    Finset.sum_eq_zero (s := Finset.univ) (f := fun j : Fin 31 => tallyAt (recvCell (tgt d j) d) () N (barCell c) ())
      fun j _ => by rw [tallyAt_apply, if_neg fun e => by have := congrArg Prod.snd e.1; cases this], Nat.zero_add]
  refine Finset.sum_congr rfl fun j _ => ?_
  rw [tallyAt_apply]
  by_cases h : d = tgt c (back j)
  · rw [if_pos h, if_pos ⟨by rw [h]; have := tgt_back c (back j); rw [back_back] at this; rw [this], rfl⟩]
  · rw [if_neg h, if_neg fun e => h (by have e := congrArg (fun g : GSem nD τ sig => g.1.1) e.1; dsimp only at e; rw [e, tgt_back])]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => sum_bar d c, Finset.sum_comm,
    Finset.sum_congr rfl fun j _ => (Finset.sum_ite_eq' Finset.univ (tgt c (back j)) fun _ => 1).trans (if_pos (Finset.mem_univ _)), Finset.sum_const, Finset.card_univ]
  rfl

theorem sum_recv (d c : Dev nD) (j : Fin 31) : O₀ d (recvCell c (tgt c j)) () = if d = tgt c j then N else 0 := by
  unfold O₀ Osend Osig
  rw [Pi.add_apply, Finsupp.add_apply, sum_tallies_apply, sum_tallies_apply, rest_zero,
    Finset.sum_eq_zero (s := Finset.univ) (f := fun i : Fin 31 => tallyAt (barCell (tgt d i)) () 1 (recvCell c (tgt c j)) ())
      fun i _ => by rw [tallyAt_apply, if_neg fun e => by have := congrArg Prod.snd e.1; cases this], Nat.add_zero]
  by_cases h : d = tgt c j
  · rw [if_pos h]
    subst h
    rw [Finset.sum_eq_single (back j) (fun i _ hi => by
        rw [tallyAt_apply, if_neg fun e => hi (tgt_inj (tgt c j) (by
          have e := congrArg (fun g : GSem nD τ sig => g.1.1) e.1
          dsimp only at e
          rw [← e, tgt_back]))])
      (fun hn => absurd (Finset.mem_univ _) hn), tallyAt_apply, if_pos ⟨by rw [tgt_back], rfl⟩]
  · rw [if_neg h]
    exact Finset.sum_eq_zero fun i _ => by
      rw [tallyAt_apply, if_neg fun e => h (recvS_inj (SemLoc.dma.inj (congrArg Prod.snd e.1))).symm]

theorem launch_recv (c : Dev nD) (j : Fin 31) :
    tallyOn (recvCell c (tgt c j)) (launchCredit (Pipeline.owing O₀) 0 (recvCell c (tgt c j))) = (tallyAt (recvCell c (tgt c j)) () N : CellTallies nD τ sig Unit) := by
  unfold tallyAt; refine congrArg _ (Finsupp.ext fun u => ?_); cases u
  rw [Pipeline.launchCredit_owing, Finsupp.single_eq_same, Finset.sum_congr rfl fun d _ => sum_recv d c j,
    Finset.sum_ite_eq' Finset.univ (tgt c j) fun _ => N, if_pos (Finset.mem_univ _)]

theorem creds (c : Dev nD) :
    (Pipeline.launchCred O₀ c : sProp 𝕄) ⊢ iprop(cred (tallyAt (barCell c) () 31) ∗ bigSep Finset.univ fun j : Fin 31 => cred (tallyAt (recvCell c (tgt c j)) () N)) := by
  unfold Pipeline.launchCred
  rw [bigSep_univ_at _ (SemLoc.reg barS), launch_bar]
  refine sep_mono_right ?_
  have hinj : Function.Injective fun j : Fin 31 => (SemLoc.dma (recvS (tgt c j)) : SemLoc sig) := fun i j h => tgt_inj c (recvS_inj (SemLoc.dma.inj h))
  refine (bigSep_subset (t := Finset.univ.map ⟨_, hinj⟩) fun s hs => ?_).trans ?_
  · obtain ⟨j, -, rfl⟩ := Finset.mem_map.mp hs
    exact Finset.mem_erase.mpr ⟨fun e => (by cases e), Finset.mem_univ _⟩
  · rw [bigSep_map]
    exact Entails.of_eq (bigSep_congr fun j _ => congrArg cred (launch_recv c j))

/-! ## The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ bufs (F := F) c) from by show Φat m c 0 = _; exact if_pos rfl, scopedRest0_eq]
  unfold bufs xbPts xtPts acPts
  iintro ⟨Hs, -, Hb, Ht, Ha⟩
  isplitl [Hs]; · iexact Hs
  isplitl [Hb]; · iexact Hb
  isplitl [Ht]; · iexact Ht
  iexact Ha

theorem last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = EndSt (F := F) c from by
    show Φat m c cfg0.N = _
    unfold Φat
    rw [if_neg (by rw [show cfg0.N = 32 from N_0]; decide), if_pos (show cfg0.N = 32 from N_0)], scopedRest0_eq, ownSems0_eq, unscopedSems0_eq]
  unfold EndSt xbPts xtPts acPts
  iintro ⟨⟨HzB, HzS, HzV⟩, Hb, Ht, Ha⟩
  isplitl [HzB]; · iexact HzB
  isplitl [HzS HzV]
  · isplitl [HzS]; · iexact HzS
    iexact HzV
  isplitl [Hb]; · iexact Hb
  isplitl [Ht]; · iexact Ht
  iexact Ha

theorem stage_sem : ∀ (w : Fin cfg0.W) (s : Fin (cfg0.win w).nbuf), ((cfg0.win w).sem s).val < 37 := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      show owedAt c t.val = _ ∨ owedAt c t.val = 0
      unfold owedAt
      split
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every execution ends, each array as the pipeline's data compute it and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := body_obligation m ρ) (hne := block_pos0)
    (harr := arr_whole0) (hstage := stage_whole0) (hshare := share_eq m ρ) (hdistinct := winFacts0.arr_inj)
    (O₀ := O₀) (howed₀ := fun c => by show owedAt c 0 = _; exact if_pos rfl) (howedN := fun c => by show owedAt c cfg0.N = 0; exact if_neg (by rw [show cfg0.N = 32 from N_0]; decide))
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m) (hA := fun _ _ => rfl) (hpf := fun _ k => k.elim0)
    (X := start m) (Y := fun c => unscopedSems0 c) (Z := fun _ => iprop(emp))
    (hX := start_intro m ρ) (hin := first m ρ) (hout := last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run with what a claim reads: the arguments as they were, the result as the windows wrote it back. -/
theorem run_args : θ_run defs (onTc (τ := τ) (main (F := F))) ⟨m, fun _ => 0, ρ⟩ (fun r => (∀ c : Dev nD,
      r.2.mem ((c.tc : Thread nD τ).loc main_v1) = finalA m ρ c (2 : Fin 3)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨h.1 c (2 : Fin 3), (h.1 c (0 : Fin 3)).trans ((dats m ρ 0 c).arrAt_in (0 : Fin 3) rfl _),
    (h.1 c (1 : Fin 3)).trans ((dats m ρ 0 c).arrAt_in (1 : Fin 3) rfl _)⟩, h.2⟩) (run_main m ρ)

end Cert.KernelIdealProof
-- ==== Proof.Value.lean ====
module

public import proofs.«01_k».proof.Proof.Run
public import Idealize.ShloMosaic.Lib.Pipeline.ValueKit.Geometry
public import Idealize.ShloMosaic.Lib.MatmulPlain
public import Idealize.ShloMosaic.Lib.Pointwise.Sums
public import Idealize.ShloMosaic.Lib.Layout

@[expose] public section

set_option maxRecDepth 16384

noncomputable section

namespace Cert.KernelIdealProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-!
# What the kernel computes, over the extended reals

Entry `(r, k)` of what device `c` leaves is the gelu of the sum, over all 4096 contracted positions `q`, of entry
`(128 c + r, q)` of the whole left matrix times entry `(q, k)` of the right one: the devices' blocks are the left matrix cut
by columns, and the four groups' sums are one sum.
-/

open scoped BigOperators

variable (m : (ℓ : Loc nD τ sig) → Buf (Elt Ideal) ℓ) (ρ : Dev nD → PrngReg)

/-- The gelu as the problem writes it, on one extended real. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- One group's product, at an entry. -/
theorem pay3_at (a : Vec Ideal S128x1024 .bf16) (b : Vec Ideal S1024x1024 .bf16) (r : Fin 128) (k : Fin 1024) :
    k0_pay3 a b (ValueIdx.ix2 r k) = ∑ q : Fin 1024, (a (ValueIdx.ix2 r q) * b (ValueIdx.ix2 q k) : EReal) := by
  unfold k0_pay3
  rw [shapeCast_self]
  refine (Ideal.matmul_plain_apply (M := 128) (K := 1024) (N := 1024) none (extf .f32 a bitsLt_bf16_f32) b
    (constant S128x1024 .f32 0x00000000#32) r k).trans ?_
  show Ideal.ofBits .f32 0x00000000#32 + _ = _
  rw [Ideal.ofBits_zero_f32, zero_add]
  rfl

theorem pay4_at (a : Vec Ideal S128x1024 .bf16) (b : Vec Ideal S1024x1024 .bf16) (i : S128x1024.Idx) :
    k0_pay4 a b i = k0_pay3 a b i := by
  unfold k0_pay4
  rw [shapeCast_self]

theorem pay5_at (a : Vec Ideal S128x1024 .bf16) (b : Vec Ideal S1024x1024 .bf16) (s : Vec Ideal S128x1024 .f32) (i : S128x1024.Idx) :
    k0_pay5 a b s i = (s i + k0_pay3 a b i : EReal) := by
  unfold k0_pay5
  rw [shapeCast_self]
  rfl

theorem pay6_at (a : Vec Ideal S128x1024 .bf16) (b : Vec Ideal S1024x1024 .bf16) (s : Vec Ideal S128x1024 .f32) (i : S128x1024.Idx) :
    k0_pay6 a b s i = gelu (s i + k0_pay3 a b i : EReal) := by
  unfold k0_pay6
  generalize k0_pay3 a b = p
  show (Ideal.ofBits .f32 0x3F000000#32 * (s i + p i) * (Ideal.ofBits .f32 0x3F800000#32
    + Ideal.tanh (Ideal.ofBits .f32 0x3F4C422A#32 * ((s i + p i)
      + Ideal.ofBits .f32 0x3D372713#32 * (s i + p i) * (s i + p i) * (s i + p i)))) : EReal) = _
  unfold gelu
  rw [mul_assoc (Ideal.ofBits .f32 0x3D372713#32), mul_assoc (Ideal.ofBits .f32 0x3D372713#32)]

/-! ## The windows' blocks at an entry -/

theorem x_index : ∀ t : Fin grid0.N, win0_0.index t = ![0, 0] := by decide +kernel
theorem w_index : ∀ t : Fin grid0.N, win0_1.index t = ![t.val / 8, t.val % 8] := by decide +kernel
theorem o_index : ∀ t : Fin grid0.N, 24 ≤ t.val → win0_2.index t = ![0, t.val % 8] := by decide +kernel

/-- The block of the left matrix that a device brings in is all it holds. -/
theorem xst_at (c : Dev nD) (i : S4096x128.Idx) : xst m c i = m ((c : Thread nD τ).loc main_arg0) i := by
  unfold xst
  have h0 : 0 < grid0.N := by rw [N_0]; decide
  generalize (⟨0, h0⟩ : Fin grid0.N) = t
  have e := x_index t
  refine congrArg (m ((c : Thread nD τ).loc main_arg0)) (funext fun a => Fin.ext ?_)
  match a with
  | ⟨0, _⟩ =>
    show ((win0_0.blk t).view.emb i (0 : Fin 2) : ℕ) = _
    blk_simp [e]
    rfl
  | ⟨1, _⟩ =>
    show ((win0_0.blk t).view.emb i (1 : Fin 2) : ℕ) = _
    blk_simp [e]
    rfl

/-- Block `(g, j)` of the right matrix. -/
theorem Wb_at (c : Dev nD) (g : ℕ) (hg : g < 4) (j : Fin 8) (q k : Fin 1024) (i : S4096x8192.Idx)
    (h0 : (i 0).val = g * 1024 + q.val) (h1 : (i 1).val = j.val * 1024 + k.val) :
    Wb m c g j (ValueIdx.ix2 q k) = m ((c : Thread nD τ).loc main_arg1) i := by
  have hj := j.isLt
  unfold Wb
  have h8 : 8 * (g4 g).val + j.val < grid0.N := by rw [N_0, g4_val hg]; omega
  have e := w_index ⟨8 * (g4 g).val + j.val, h8⟩
  have e0 : (8 * (g4 g).val + j.val) / 8 = g := by rw [g4_val hg]; omega
  have e1 : (8 * (g4 g).val + j.val) % 8 = j.val := by omega
  simp only [e0, e1] at e
  generalize (⟨8 * (g4 g).val + j.val, h8⟩ : Fin grid0.N) = t at e
  refine congrArg (m ((c : Thread nD τ).loc main_arg1)) (funext fun a => Fin.ext ?_)
  match a with
  | ⟨0, _⟩ =>
    refine Eq.trans ?_ h0.symm
    show ((win0_1.blk t).view.emb (ValueIdx.ix2 q k) (0 : Fin 2) : ℕ) = _
    blk_simp [e]
  | ⟨1, _⟩ =>
    refine Eq.trans ?_ h1.symm
    show ((win0_1.blk t).view.emb (ValueIdx.ix2 q k) (1 : Fin 2) : ℕ) = _
    blk_simp [e]

/-- The left matrix is cut along its columns into 32 blocks. -/
theorem tiles_left : Layout.Tiles ⟨2, ![4096, 128]⟩ ⟨2, ![4096, 4096]⟩ 1 32 := by decide

section Values

variable {m}
variable (X : (⟨2, ![4096, 4096]⟩ : Shape).Idx → EReal) (W : S4096x8192.Idx → EReal)
variable (hX : ∀ c : Dev nD, m ((c : Thread nD τ).loc main_arg0) = Layout.block ⟨2, ![4096, 128]⟩ ⟨2, ![4096, 4096]⟩ 1 32 c X tiles_left)
variable (hW : ∀ c : Dev nD, m ((c : Thread nD τ).loc main_arg1) = W)

include hX in
/-- Column group `g` of what a device gathers is `128` rows of that column group of the whole left matrix. -/
theorem XTg_at (c : Dev nD) (g : ℕ) (hg : g < 4) (r : Fin 128) (q : Fin 1024) :
    XTg m c g (ValueIdx.ix2 r q) = X (ValueIdx.ix2 (n0 := 4096) (n1 := 4096) ⟨128 * c.val + r.val, by have : c.val < 32 := c.isLt; omega⟩ ⟨g * 1024 + q.val, by omega⟩) := by
  have hc : c.val < 32 := c.isLt
  have hr := r.isLt
  have hq := q.isLt
  unfold XTg
  show XT m c ((xtAcc ![0, 1024 * (g4 g).val] (inb_xt (g4 g))).emb (ValueIdx.ix2 r q)) = _
  have c0 : ((xtAcc ![0, 1024 * (g4 g).val] (inb_xt (g4 g))).emb (ValueIdx.ix2 r q) 0).val = r.val := by
    show 0 + 1 * r.val = r.val
    omega
  have c1 : ((xtAcc ![0, 1024 * (g4 g).val] (inb_xt (g4 g))).emb (ValueIdx.ix2 r q) 1).val = g * 1024 + q.val := by
    show 1024 * (g4 g).val + 1 * q.val = _
    rw [g4_val hg]; omega
  refine (XT_apply m c ⟨(g * 1024 + q.val) / 128, by show _ < 32; omega⟩ _
    (ValueIdx.ix2 (n0 := 4096) (n1 := 128) ⟨128 * c.val + r.val, by omega⟩ ⟨(g * 1024 + q.val) % 128, Nat.mod_lt _ (by omega)⟩)
    (by rw [c1]) (by rw [c0]) (by rw [c1])).trans ?_
  unfold XB k0_pay1
  rw [shapeCast_self, shapeCast_self, xst_at, hX]
  refine congrArg X (funext fun a => Fin.ext ?_)
  rw [Layout.Tiles.idx_val]
  match a with
  | ⟨0, _⟩ => rfl
  | ⟨1, _⟩ =>
    show (g * 1024 + q.val) / 128 * 128 + (g * 1024 + q.val) % 128 = g * 1024 + q.val
    omega

/-- One term of the whole product: entry `(R, q)` times entry `(q, C)`. -/
def term (R : Fin 4096) (C : Fin 8192) (q : Fin 4096) : EReal := X (ValueIdx.ix2 R q) * W (ValueIdx.ix2 q C)

include hX hW in
/-- One group's product: 1024 terms of the whole one. -/
theorem group_at (c : Dev nD) (g : ℕ) (hg : g < 4) (j : Fin 8) (r : Fin 128) (k : Fin 1024) (R : Fin 4096) (C : Fin 8192)
    (hR : R.val = 128 * c.val + r.val) (hC : C.val = j.val * 1024 + k.val) :
    k0_pay3 (XTg m c g) (Wb m c g j) (ValueIdx.ix2 r k) = ∑ q : Fin 1024, term X W R C ⟨g * 1024 + q.val, by omega⟩ := by
  rw [pay3_at]
  refine Finset.sum_congr rfl fun q _ => ?_
  have hq := q.isLt
  rw [XTg_at X hX c g hg r q, Wb_at m c g hg j q k (ValueIdx.ix2 (n0 := 4096) (n1 := 8192) ⟨g * 1024 + q.val, by omega⟩ C) rfl hC, hW c]
  unfold term
  rw [show R = ⟨128 * c.val + r.val, by have : c.val < 32 := c.isLt; have := r.isLt; omega⟩ from Fin.ext hR]

include hX hW in
/-- What a device leaves in column block `j` of its result. -/
theorem OUT_at (c : Dev nD) (j : Fin 8) (r : Fin 128) (k : Fin 1024) (R : Fin 4096) (C : Fin 8192)
    (hR : R.val = 128 * c.val + r.val) (hC : C.val = j.val * 1024 + k.val) :
    OUT m c j (ValueIdx.ix2 r k) = gelu (∑ q : Fin 4096, term X W R C q) := by
  unfold OUT
  rw [pay6_at]
  unfold ACC ACC ACC
  rw [pay5_at, pay5_at, pay4_at, group_at X W hX hW c 0 (by omega) j r k R C hR hC, group_at X W hX hW c 1 (by omega) j r k R C hR hC,
    group_at X W hX hW c 2 (by omega) j r k R C hR hC, group_at X W hX hW c 3 (by omega) j r k R C hR hC,
    Fin.sum_univ_tiles 4 1024 rfl (term X W R C), Fin.sum_univ_four]
  rfl

/-- The result of a device, from the whole matrices. -/
def result (c : Dev nD) : S128x8192.Idx → EReal := fun i =>
  gelu (∑ q : Fin 4096, term X W ⟨128 * c.val + (i 0).val, by have : c.val < 32 := c.isLt; have : (i 0).val < 128 := (i 0).isLt; omega⟩ (i 1) q)

include hX hW in
/-- The array a device ends with. -/
theorem final_at (c : Dev nD) : finalA m ρ c (2 : Fin 3) = result X W c := by
  unfold finalA
  refine (dats m ρ 0 c).arrAt_eq_of_covers (2 : Fin 3) _ (by decide +kernel) fun t hf y => ?_
  have ht : 24 ≤ t.val := by
    have h := (flush_2 t).symm.trans hf
    exact of_decide_eq_true h
  have e := o_index t ht
  show OUT m c (col t) y = result X W c ((win0_2.blk t).view.emb y)
  have e0 : ((win0_2.blk t).view.emb y 0 : ℕ) = (y 0).val := by blk_simp [e]
  have e1 : ((win0_2.blk t).view.emb y 1 : ℕ) = t.val % 8 * 1024 + (y 1).val := by blk_simp [e]
  rw [show y = ValueIdx.ix2 (n0 := 128) (n1 := 1024) (y 0) (y 1) from funext fun a => by fin_cases a <;> rfl]
  exact OUT_at X W hX hW c (col t) (y 0) (y 1) _ _ (congrArg (128 * c.val + ·) e0) e1

end Values

end Cert.KernelIdealProof

end
-- ==== Proof.Whole.lean ====
module

public import proofs.«01_k».proof.Proof.Value
public import proofs.«01_k».proof.Proof.Gen.ReferenceIdeal.Run
public import Idealize.ShloMosaic.Lib.StackMember

@[expose] public section

noncomputable section

/-!
# The reference's result, and a device's block of it

Entry `(R, C)` of the reference is the gelu of the sum of the 4096 terms of the whole product; what device `c` of the
kernel ends with is rows `128 c` to `128 c + 127` of that.
-/

namespace Cert.Whole

open Idealize.ShloMosaic Idealize.ShloMosaic.TcCoe Idealize.SL.Sem
open Cert.KernelIdealProof (gelu term result)
open scoped BigOperators

variable (X : (⟨2, ![4096, 4096]⟩ : Shape).Idx → EReal) (W : (⟨2, ![4096, 8192]⟩ : Shape).Idx → EReal)

/-- The problem's result, from the whole matrices. -/
def whole : (⟨2, ![4096, 8192]⟩ : Shape).Idx → EReal := fun i => gelu (∑ q : Fin 4096, term X W (i 0) (i 1) q)

/-- The reference's product, at an entry. -/
theorem product_at (i : (⟨2, ![4096, 8192]⟩ : Shape).Idx) :
    (Host.dotGeneral (F := Ideal) (φ₁ := .bf16) (φ₂ := .bf16) Cert.ReferenceIdeal.dot_S4096x4096_S4096x8192_S4096x8192_1_0_0_1_n_n none X W i : EReal)
      = ∑ q : Fin 4096, term X W (i 0) (i 1) q := by
  rw [show i = ValueIdx.ix2 (n0 := 4096) (n1 := 8192) (i 0) (i 1) from funext fun a => by fin_cases a <;> rfl]
  exact Idealize.ShloMosaic.StackMember.dotGeneral_plain_apply (m := 4096) (k := 4096) (n := 8192) (φ₁ := .bf16) (φ₂ := .bf16) none X W (i 0) (i 1)

/-- A device's block of the problem's result is what the device ends with. -/
theorem block_whole (c : Fin 32) : result X W c = Layout.block ⟨2, ![128, 8192]⟩ ⟨2, ![4096, 8192]⟩ 0 32 c (whole X W) := by
  funext i
  rw [Layout.block_apply]
  unfold result whole
  have h : Layout.Tiles ⟨2, ![128, 8192]⟩ ⟨2, ![4096, 8192]⟩ 0 32 := by decide
  have e0 : (h.idx c i (0 : Fin 2)).val = 128 * c.val + (i 0).val := by
    rw [Layout.Tiles.idx_val]
    show c.val * 128 + (i 0).val = _
    omega
  have e1 : (h.idx c i (1 : Fin 2)).val = (i 1).val := by
    rw [Layout.Tiles.idx_val]
    rfl
  refine congrArg gelu (Finset.sum_congr rfl fun q _ => ?_)
  exact congrArg₂ (fun R C => term X W R C q) (Fin.ext e0.symm) (Fin.ext e1.symm)

open Cert.ReferenceIdeal in
/-- The run of the reference: its result is the problem's, its arguments are unchanged. -/
theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
        = whole (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Cert.ReferenceIdeal.Value.run (F := Ideal) m ρ)
  have e := product_at (m ((c.tc : Thread nD τ).loc main_arg0)) (m ((c.tc : Thread nD τ).loc main_arg1)) i
  generalize hp : Host.dotGeneral (F := Ideal) (φ₁ := .bf16) (φ₂ := .bf16) dot_S4096x4096_S4096x8192_S4096x8192_1_0_0_1_n_n none
    (m ((c.tc : Thread nD τ).loc main_arg0)) (m ((c.tc : Thread nD τ).loc main_arg1)) = p at e ⊢
  unfold whole
  rw [← e]
  rfl

end Cert.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.Run
public import proofs.«01_k».proof.Proof.Value
public import proofs.«01_k».proof.Proof.Whole
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

section

local instance : Cert.Kernel.Facts := Cert.Kernel.Gen.facts
local instance : Cert.KernelIdeal.Facts := Cert.KernelIdeal.Gen.facts
local instance : Cert.ReferenceIdeal.Facts := Cert.ReferenceIdeal.Gen.facts

/-- The kernel as it is run: it ends, its arguments are unchanged, every counter is zero. -/
theorem frame_kernel : Cert.quiescent_Kernel (hKernel := Cert.Kernel.Gen.facts) := fun m g _ =>
  (θ_run _ _ _).mono (fun _ h => ⟨fun c => (h.1 c).2, h.2⟩) (Cert.KernelProof.run_args (F := Bits) m g)

/-- The same of the kernel over the extended reals. -/
theorem frame_ideal : Cert.quiescent_KernelIdeal (hKernelIdeal := Cert.KernelIdeal.Gen.facts) := fun m g _ =>
  (θ_run _ _ _).mono (fun _ h => ⟨fun c => (h.1 c).2, h.2⟩) (Cert.KernelIdealProof.run_args (F := Ideal) m g)

/-- The same of the reference, which declares no counter. -/
theorem frame_reference : Cert.quiescent_ReferenceIdeal (hReferenceIdeal := Cert.ReferenceIdeal.Gen.facts) := fun m g _ =>
  (θ_run _ _ _).mono (fun _ h => ⟨fun c => (h c).2, sem_eq_zero_of_no_sems rfl _⟩)
    (Cert.ReferenceIdeal.Value.run (F := Ideal) m g)

/-- Each device ends with its rows of the reference's result. -/
theorem value : Cert.algebraic_KernelIdeal_ReferenceIdeal (hKernelIdeal := Cert.KernelIdeal.Gen.facts)
    (hReferenceIdeal := Cert.ReferenceIdeal.Gen.facts) := fun m g m' g' _ h =>
  ⟨Cert.Whole.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ hr c => ⟨(hr.1 c).1.trans ((Cert.KernelIdealProof.final_at g _ _ (fun c => (h c).1) (fun c => (h c).2) c).trans
      (Cert.Whole.block_whole _ _ c)), (hr.1 c).2⟩) (Cert.KernelIdealProof.run_args (F := Ideal) m g),
    (θ_run _ _ _).mono (fun _ hr => hr 0) (Cert.Whole.run_whole m' g')⟩

end

theorem claim : Cert.Claim := ⟨Cert.Kernel.Gen.facts, Cert.KernelIdeal.Gen.facts, Cert.ReferenceIdeal.Gen.facts,
  frame_kernel, frame_ideal, frame_reference, trivial, value⟩

end Cert.Proof

end
